-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S128x1 : Shape := ⟨2, ![128, 1]⟩
abbrev S128x2048 : Shape := ⟨2, ![128, 2048]⟩
abbrev S128 : Shape := ⟨1, ![128]⟩
abbrev S128x8192 : Shape := ⟨2, ![128, 8192]⟩

abbrev nBuf : Space → Nat
  | .hbm => 3
  | .vmem => 8
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S128x100000, .f32⟩
  | .local _ .vmem, ⟨0, _⟩ => ⟨S128x2048, .f32⟩
  | .local _ .vmem, ⟨1, _⟩ => ⟨S128x2048, .f32⟩
  | .local _ .vmem, ⟨2, _⟩ => ⟨S128x1, .i32⟩
  | .local _ .vmem, ⟨3, _⟩ => ⟨S128x1, .f32⟩
  | .local _ .vmem, ⟨4, _⟩ => ⟨S128x1, .i32⟩
  | .local _ .vmem, ⟨5, _⟩ => ⟨S128x1, .i32⟩
  | .local _ .vmem, ⟨6, _⟩ => ⟨S128x8192, .f32⟩
  | .local _ .vmem, ⟨7, _⟩ => ⟨S128x8192, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v233 : BitVec 1 := Scalar.cmpi .eq arg0 c48_i32
  let v234 : BitVec 32 := Scalar.extui v233
  let c0_i32_62 : BitVec 32 := 0#32
  let v235 : BitVec 1 := Scalar.cmpi .ne v234 c0_i32_62
  v235

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S1x100000 : Shape := ⟨2, ![1, 100000]⟩

abbrev nBuf : Space → Nat
  | .hbm => 301
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S_, .f32⟩
  | 23 => ⟨S128x100000, .f32⟩
  | 24 => ⟨S128x100000, .f32⟩
  | 25 => ⟨S_, .f32⟩
  | 26 => ⟨S128x100000, .f32⟩
  | 27 => ⟨S128x100000, .f32⟩
  | 28 => ⟨S128x100000, .f32⟩
  | 29 => ⟨S128x100000, .f32⟩
  | 30 => ⟨S128x100000, .f32⟩
  | 31 => ⟨S128x100000, .f32⟩
  | 32 => ⟨S128x100000, .f32⟩
  | 33 => ⟨S128x100000, .f32⟩
  | 34 => ⟨S128x100000, .i32⟩
  | 35 => ⟨S_, .f32⟩
  | 36 => ⟨S_, .i32⟩
  | 37 => ⟨S128, .f32⟩
  | 38 => ⟨S128, .i32⟩
  | 39 => ⟨S128x1, .i32⟩
  | 40 => ⟨S1x100000, .i32⟩
  | 41 => ⟨S128x100000, .i32⟩
  | 42 => ⟨S128x100000, .i32⟩
  | 43 => ⟨S128x100000, .i1⟩
  | 44 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_cst_4 : Ref sig .tc := ⟨.hbm, 278, rfl⟩
abbrev main_v10 : Ref sig .tc := ⟨.hbm, 279, rfl⟩
abbrev main_v11 : Ref sig .tc := ⟨.hbm, 280, rfl⟩
abbrev main_cst_5 : Ref sig .tc := ⟨.hbm, 281, rfl⟩
abbrev main_v12 : Ref sig .tc := ⟨.hbm, 282, rfl⟩
abbrev main_v13 : Ref sig .tc := ⟨.hbm, 283, rfl⟩
abbrev main_v14 : Ref sig .tc := ⟨.hbm, 284, rfl⟩
abbrev main_v15 : Ref sig .tc := ⟨.hbm, 285, rfl⟩
abbrev main_v16 : Ref sig .tc := ⟨.hbm, 286, rfl⟩
abbrev main_v17 : Ref sig .tc := ⟨.hbm, 287, rfl⟩
abbrev main_v18 : Ref sig .tc := ⟨.hbm, 288, rfl⟩
abbrev main_v19 : Ref sig .tc := ⟨.hbm, 289, rfl⟩
abbrev main_call1_v0 : Ref sig .tc := ⟨.hbm, 290, rfl⟩
abbrev main_call1_cst : Ref sig .tc := ⟨.hbm, 291, rfl⟩
abbrev main_call1_c : Ref sig .tc := ⟨.hbm, 292, rfl⟩
abbrev main_call1_v1_0 : Ref sig .tc := ⟨.hbm, 293, rfl⟩
abbrev main_v20 : Ref sig .tc := ⟨.hbm, 294, rfl⟩
abbrev main_call2_v0 : Ref sig .tc := ⟨.hbm, 295, rfl⟩
abbrev main_call2_v1 : Ref sig .tc := ⟨.hbm, 296, rfl⟩
abbrev main_call2_v2 : Ref sig .tc := ⟨.hbm, 297, rfl⟩
abbrev main_call2_v3 : Ref sig .tc := ⟨.hbm, 298, rfl⟩
abbrev main_call2_v4 : Ref sig .tc := ⟨.hbm, 299, rfl⟩
abbrev main_v21 : Ref sig .tc := ⟨.hbm, 300, rfl⟩

abbrev nD : Nat := 1
abbrev τ : Topo := Topo.v7x

variable {F : FTy → Type} [FloatOps F]
-- ==== Proof.Body.lean ====
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.KitQuiescent
public import Idealize.ShloMosaic.Lib.Pipeline.RegionArrays
public import Idealize.ShloMosaic.Lib.VecWindow
public import Idealize.ShloMosaic.Lib.Tactic

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one grid point of the argmax kernel computes -/

/-- The running best of every row: the greatest score seen and the column it was first seen at. -/
abbrev Best (F : FTy → Type) [FloatOps F] : Type := Vec F S128x1 .f32 × Vec F S128x1 .i32

/-- The hash's words at point `i`, before the rounds the score's own payload finishes. -/
def hash (i : grid0.Coords) : IVec S128x2048 32 × IVec S128x2048 32 × IVec S128x2048 32 :=
  let v85 := k0_pay25 (k0_pay14 i) (k0_pay15 i) (k0_pay16 i) 26#32
  let v86 := k0_pay26 (k0_pay14 i) (k0_pay15 i) (k0_pay16 i) 26#32
  let v127 := k0_pay36 v85 v86 13#32
  let v132 := k0_pay37 v85 v86 13#32
  (k0_pay48 v127 v132, k0_pay49 v127 v132, k0_pay50 v127 v132)

/-- The scores of point `i`'s block of the probabilities: -infinity at the columns past the array. -/
def score (i : grid0.Coords) (x : Vec F S128x2048 .f32) : FVec F S128x2048 .f32 :=
  k0_pay51 (k0_pay7 i) (hash i).1 (hash i).2.1 (hash i).2.2 26#32 x

/-- The block's greatest score, per row. -/
def blockMax (i : grid0.Coords) (x : Vec F S128x2048 .f32) : FVec F S128x1 .f32 :=
  k0_pay52 (k0_pay7 i) (hash i).1 (hash i).2.1 (hash i).2.2 26#32 x

/-- The first column of the block that has it, per row. -/
def blockArg (i : grid0.Coords) (x : Vec F S128x2048 .f32) : IVec S128x1 32 :=
  k0_pay53 (k0_pay6 i) (k0_pay7 i) (hash i).1 (hash i).2.1 (hash i).2.2 26#32 x

/-- The running best before any block. -/
def best0 : Best F := (k0_pay4, k0_pay5)

/-- The running best with point `i`'s block taken in. -/
def bestStep (i : grid0.Coords) (x : Vec F S128x2048 .f32) (s : Best F) : Best F :=
  (k0_pay3 (blockMax i x) s.1 s.1, k0_pay2 (blockMax i x) (blockArg i x) s.1 s.2)

/-- The kernel's two branches' conditions: the first point, where the running best is set up, -/
abbrev cond1 (i : grid0.Coords) : Prop := Scalar.cmpi .ne (Scalar.extui (Scalar.cmpi .eq (BitVec.ofNat 32 (i 0).val) 0#32) : BitVec 32) 0#32 = 1#1

/-- What the running best is when point `i`'s block is taken in, from what the scratch buffers hold. -/
def bestIn (i : grid0.Coords) (s : Best F) : Best F := if cond1 i then best0 else s

/-- A buffer named by a memref, on core `c`, held whole. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev scr0 : Memref sig .tc .vmem S128x1 .f32 := Memref.whole cc0_scratch0
abbrev scr1 : Memref sig .tc .vmem S128x1 .i32 := Memref.whole cc0_scratch1

/-- A block's staging buffer as the body reads it: whole. -/
abbrev rd {M : Memref sig .tc .vmem S128x2048 .f32} (c : Dev nD) (f : Buf (Elt F) (M.view.loc (c : Thread nD τ))) : Vec F S128x2048 .f32 :=
  M.view.readAt (Elt F) (Rect.unit (s := S128x2048) ![0, 0] S128x2048.size inb_S128x2048_S128x2048_0_0).toLoadRect f

theorem zero2 : (![0, 0] : Fin 2 → Nat) = fun _ => 0 := funext fun a => by fin_cases a <;> rfl

/-- A run of stores the last of which fills a whole buffer leaves what that one stored. -/
theorem writes_whole (b : Ref sig .tc) {off : Fin b.ty.shape.rank → Nat} (h : off = fun _ => 0)
    (inb : ∀ a, off a + b.ty.shape.size a ≤ b.ty.shape.size a) (f w : b.ty.Contents (Elt F)) (L) :
    (Memref.whole b : Memref sig .tc _ _ _).view.writes (Elt F) f (⟨Rect.unit off b.ty.shape.size inb, w⟩ :: L) = w := by
  rw [View.writes_cons]
  exact Memref.write_access_unit_zero_univ (Elt F) b h inb _ w

theorem writes_scr0 (f w : Vec F S128x1 .f32) (L) :
    scr0.view.writes (Elt F) f (⟨Rect.unit (s := S128x1) ![0, 0] ![128, 1] inb_S128x1_S128x1_0_0, w⟩ :: L) = w :=
  writes_whole cc0_scratch0 zero2 inb_S128x1_S128x1_0_0 f w L

theorem writes_scr1 (f w : Vec F S128x1 .i32) (L) :
    scr1.view.writes (Elt F) f (⟨Rect.unit (s := S128x1) ![0, 0] ![128, 1] inb_S128x1_S128x1_0_0, w⟩ :: L) = w :=
  writes_whole cc0_scratch1 zero2 inb_S128x1_S128x1_0_0 f w L

theorem writes_stg1 (f w : Vec F S128x1 .i32) (L) :
    (Memref.whole cc0_stg1_0 : Memref sig .tc .vmem S128x1 .i32).view.writes (Elt F) f (⟨Rect.unit (s := S128x1) ![0, 0] ![128, 1] inb_S128x1_S128x1_0_0, w⟩ :: L) = w :=
  writes_whole cc0_stg1_0 zero2 inb_S128x1_S128x1_0_0 f w L

theorem readCov_scr0 (w : Vec F S128x1 .f32) (L) :
    scr0.view.readCov (⟨Rect.unit (s := S128x1) ![0, 0] ![128, 1] inb_S128x1_S128x1_0_0, w⟩ :: L)
      (Rect.unit (s := S128x1) ![0, 0] ![128, 1] inb_S128x1_S128x1_0_0).toLoadRect = w :=
  View.readCov_full (s := S128x1) _ inb_S128x1_S128x1_0_0 inb_S128x1_S128x1_0_0 w L

theorem readAt_scr0 (w : Vec F S128x1 .f32) :
    scr0.view.readAt (Elt F) (Rect.unit (s := S128x1) ![0, 0] ![128, 1] inb_S128x1_S128x1_0_0).toLoadRect w = w :=
  Memref.readAt_unit_zero (Elt F) cc0_scratch0 zero2 inb_S128x1_S128x1_0_0 w

theorem readCov_scr1 (w : Vec F S128x1 .i32) (L) :
    scr1.view.readCov (⟨Rect.unit (s := S128x1) ![0, 0] ![128, 1] inb_S128x1_S128x1_0_0, w⟩ :: L)
      (Rect.unit (s := S128x1) ![0, 0] ![128, 1] inb_S128x1_S128x1_0_0).toLoadRect = w :=
  View.readCov_full (s := S128x1) _ inb_S128x1_S128x1_0_0 inb_S128x1_S128x1_0_0 w L

theorem readAt_scr1 (w : Vec F S128x1 .i32) :
    scr1.view.readAt (Elt F) (Rect.unit (s := S128x1) ![0, 0] ![128, 1] inb_S128x1_S128x1_0_0).toLoadRect w = w :=
  Memref.readAt_unit_zero (Elt F) cc0_scratch1 zero2 inb_S128x1_S128x1_0_0 w

theorem argmaxRun_first (c : Dev nD) (i : grid0.Coords) (h1 : cond1 i) (h2 : ¬ k0_cond2 i = 1#1)
    (M : Memref sig .tc .vmem S128x2048 .f32) (hM : M.IsWhole) (f : Buf (Elt F) (M.view.loc (c : Thread nD τ)))
    (y : Vec F S128x1 .i32) (s : Best F) (Q : PUnit → sProp 𝕄) :
    iprop(pt c M f ∗ pt c (Memref.whole cc0_stg1_0) y ∗ pt c scr0 s.1 ∗ pt c scr1 s.2
      ∗ (iprop(pt c M f ∗ pt c (Memref.whole cc0_stg1_0) y ∗ pt c scr0 (bestStep i (rd c f) best0).1 ∗ pt c scr1 (bestStep i (rd c f) best0).2) -∗ Q ⟨⟩))
    ⊢ wp frame (wpE (defs₀ (F := F)) Variants.none c none) Set.univ
        (cc0__argmax_kernel i M hM (Memref.whole cc0_stg1_0) (Memref.isWhole_whole _) scr0 (Memref.isWhole_whole _) scr1 (Memref.isWhole_whole _)) Q := by
  simp only [cc0__argmax_kernel_eq_skeleton]; unfold cc0__argmax_kernel_skel
  simp only [k0_part1_eq_skeleton, k0_part2_eq_skeleton, k0_part3_eq_skeleton, k0_part4_eq_skeleton, k0_part5_eq_skeleton]
  iintro ⟨H0, H1, H2, H3, Hk⟩
  sl_exec!
  sl_step
  iapply Hk
  isplitl [H0]; · iexact H0
  isplitl [H1]; · iexact H1
  delta argmaxRun_first.sl.H2_2 argmaxRun_first.sl.H3_2 argmaxRun_first.sl.v221 argmaxRun_first.sl.v223
  delta argmaxRun_first.sl.H2_1 argmaxRun_first.sl.H3_1
  rw [writes_scr0, writes_scr1]
  erw [readCov_scr0 (F := F) k0_pay4, readCov_scr1 (F := F) k0_pay5]
  delta argmaxRun_first.sl.r_7 argmaxRun_first.sl.r_8
  delta argmaxRun_first.sl.r_4 argmaxRun_first.sl.r_5 argmaxRun_first.sl.r_6
  delta argmaxRun_first.sl.r_2 argmaxRun_first.sl.r_3
  delta argmaxRun_first.sl.r argmaxRun_first.sl.r_1
  unfold bestStep blockMax blockArg hash best0
  isplitl [H2]
  · iexact H2
  · iexact H3

theorem argmaxRun_mid (c : Dev nD) (i : grid0.Coords) (h1 : ¬ cond1 i) (h2 : ¬ k0_cond2 i = 1#1)
    (M : Memref sig .tc .vmem S128x2048 .f32) (hM : M.IsWhole) (f : Buf (Elt F) (M.view.loc (c : Thread nD τ)))
    (y : Vec F S128x1 .i32) (s : Best F) (Q : PUnit → sProp 𝕄) :
    iprop(pt c M f ∗ pt c (Memref.whole cc0_stg1_0) y ∗ pt c scr0 s.1 ∗ pt c scr1 s.2
      ∗ (iprop(pt c M f ∗ pt c (Memref.whole cc0_stg1_0) y ∗ pt c scr0 (bestStep i (rd c f) s).1 ∗ pt c scr1 (bestStep i (rd c f) s).2) -∗ Q ⟨⟩))
    ⊢ wp frame (wpE (defs₀ (F := F)) Variants.none c none) Set.univ
        (cc0__argmax_kernel i M hM (Memref.whole cc0_stg1_0) (Memref.isWhole_whole _) scr0 (Memref.isWhole_whole _) scr1 (Memref.isWhole_whole _)) Q := by
  simp only [cc0__argmax_kernel_eq_skeleton]; unfold cc0__argmax_kernel_skel
  simp only [k0_part1_eq_skeleton, k0_part2_eq_skeleton, k0_part3_eq_skeleton, k0_part4_eq_skeleton, k0_part5_eq_skeleton]
  iintro ⟨H0, H1, H2, H3, Hk⟩
  sl_exec!
  sl_step
  iapply Hk
  isplitl [H0]; · iexact H0
  isplitl [H1]; · iexact H1
  delta argmaxRun_mid.sl.H2_1 argmaxRun_mid.sl.H3_1
  rw [writes_scr0, writes_scr1, readAt_scr0, readAt_scr1]
  delta argmaxRun_mid.sl.r_7 argmaxRun_mid.sl.r_8
  delta argmaxRun_mid.sl.r_4 argmaxRun_mid.sl.r_5 argmaxRun_mid.sl.r_6
  delta argmaxRun_mid.sl.r_2 argmaxRun_mid.sl.r_3
  delta argmaxRun_mid.sl.r argmaxRun_mid.sl.r_1
  unfold bestStep blockMax blockArg hash
  isplitl [H2]
  · iexact H2
  · iexact H3

theorem argmaxRun_last (c : Dev nD) (i : grid0.Coords) (h1 : ¬ cond1 i) (h2 : k0_cond2 i = 1#1)
    (M : Memref sig .tc .vmem S128x2048 .f32) (hM : M.IsWhole) (f : Buf (Elt F) (M.view.loc (c : Thread nD τ)))
    (y : Vec F S128x1 .i32) (s : Best F) (Q : PUnit → sProp 𝕄) :
    iprop(pt c M f ∗ pt c (Memref.whole cc0_stg1_0) y ∗ pt c scr0 s.1 ∗ pt c scr1 s.2
      ∗ (iprop(pt c M f ∗ pt c (Memref.whole cc0_stg1_0) (bestStep i (rd c f) s).2 ∗ pt c scr0 (bestStep i (rd c f) s).1 ∗ pt c scr1 (bestStep i (rd c f) s).2) -∗ Q ⟨⟩))
    ⊢ wp frame (wpE (defs₀ (F := F)) Variants.none c none) Set.univ
        (cc0__argmax_kernel i M hM (Memref.whole cc0_stg1_0) (Memref.isWhole_whole _) scr0 (Memref.isWhole_whole _) scr1 (Memref.isWhole_whole _)) Q := by
  simp only [cc0__argmax_kernel_eq_skeleton]; unfold cc0__argmax_kernel_skel
  simp only [k0_part1_eq_skeleton, k0_part2_eq_skeleton, k0_part3_eq_skeleton, k0_part4_eq_skeleton, k0_part5_eq_skeleton]
  iintro ⟨H0, H1, H2, H3, Hk⟩
  sl_exec!
  sl_step
  iapply Hk
  isplitl [H0]; · iexact H0
  delta argmaxRun_last.sl.H1_1 argmaxRun_last.sl.v236
  delta argmaxRun_last.sl.H2_1 argmaxRun_last.sl.H3_1
  rw [writes_scr0, writes_scr1, writes_stg1, readAt_scr0, readAt_scr1, readCov_scr1]
  delta argmaxRun_last.sl.r_7 argmaxRun_last.sl.r_8
  delta argmaxRun_last.sl.r_4 argmaxRun_last.sl.r_5 argmaxRun_last.sl.r_6
  delta argmaxRun_last.sl.r_2 argmaxRun_last.sl.r_3
  delta argmaxRun_last.sl.r argmaxRun_last.sl.r_1
  unfold bestStep blockMax blockArg hash
  isplitl [H1]; · iexact H1
  isplitl [H2]
  · iexact H2
  · iexact H3

/-! ## What one grid point of the one-hot kernel computes -/

theorem onehotRun (c : Dev nD) (i : grid1.Coords) (M : Memref sig .tc .vmem S128x8192 .f32) (hM : M.IsWhole)
    (x : Vec F S128x1 .i32) (g g' : Buf (Elt F) (M.view.loc (c : Thread nD τ)))
    (hg : ∀ f, M.view.writes (Elt F) f [⟨Rect.unit (s := S128x8192) ![0, 0] S128x8192.size inb_S128x8192_S128x8192_0_0, k1_pay1 i x⟩] = g')
    (Q : PUnit → sProp 𝕄) :
    iprop(pt c (Memref.whole cc1_stg0_0) x ∗ pt c M g
      ∗ (iprop(pt c (Memref.whole cc1_stg0_0) x ∗ pt c M g') -∗ Q ⟨⟩))
    ⊢ wp frame (wpE (defs₀ (F := F)) Variants.none c none) Set.univ
        (cc1__onehot_kernel i (Memref.whole cc1_stg0_0) (Memref.isWhole_whole _) M hM) Q := by
  simp only [cc1__onehot_kernel_eq_skeleton]; unfold cc1__onehot_kernel_skel
  iintro ⟨H0, H1, Hk⟩
  sl_exec!
  sl_step
  iapply Hk
  isplitl [H0]; · iexact H0
  delta onehotRun.sl.H1_1
  have e : View.readAt (Elt F) (Memref.whole cc1_stg0_0 : Memref sig .tc .vmem S128x1 .i32).view
      (Rect.unit (s := S128x1) ![0, 0] ![128, 1] inb_S128x1_S128x1_0_0).toLoadRect x = x :=
    Memref.readAt_unit_zero (Elt F) cc1_stg0_0 zero2 inb_S128x1_S128x1_0_0 x
  erw [e, hg]
  iexact H1

end Cert.Proof.Run
-- ==== Proof.Region.lean ====
module

public import proofs.«01_k».proof.Proof.Body

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligationLoose)

variable {F : FTy → Type} [FloatOps F]

local notation "𝕄" => MT nD τ sig Unit (Elt F) ℕ (UR sig nD τ) ℕ

/-! ## The two bodies on the windows' staging buffers -/

/-- A block's staging buffer held at `X`, as the body's triple states it, -/
theorem stage_open (c : Dev nD) (s : Fin 2) (X : Vec F S128x2048 .f32) :
    (owns (c : Thread nD τ) (stage0_0 s) fullShare X : sProp 𝕄) ⊢ iprop(∃ f, ⌜rd (M := stage0_0 s) c f = X⌝ ∗ pt c (stage0_0 s) f) := by
  fin_cases s
  · simp only [owns_whole_eq]
    iintro ⟨%f, %h, H⟩
    iexists f
    isplitr
    · ipureintro; subst h
      exact Memref.readAt_unit_zero (Elt F) cc0_stg0_0 zero2 inb_S128x2048_S128x2048_0_0 f
    · iexact H
  · simp only [owns_whole_eq]
    iintro ⟨%f, %h, H⟩
    iexists f
    isplitr
    · ipureintro; subst h
      exact Memref.readAt_unit_zero (Elt F) cc0_stg0_1 zero2 inb_S128x2048_S128x2048_0_0 f
    · iexact H

/-- and back. -/
theorem stage_close (c : Dev nD) (s : Fin 2) (f) :
    (pt c (stage0_0 s) f : sProp 𝕄) ⊢ owns (c : Thread nD τ) (stage0_0 s) fullShare (rd (M := stage0_0 s) c f) := by
  fin_cases s
  · simp only [owns_whole_eq]
    iintro H
    iexists f
    isplitr
    · ipureintro
      exact (Memref.readAt_unit_zero (Elt F) cc0_stg0_0 zero2 inb_S128x2048_S128x2048_0_0 f).symm
    · iexact H
  · simp only [owns_whole_eq]
    iintro H
    iexists f
    isplitr
    · ipureintro
      exact (Memref.readAt_unit_zero (Elt F) cc0_stg0_1 zero2 inb_S128x2048_S128x2048_0_0 f).symm
    · iexact H

/-- What the argmax kernel does at point `i`: its block taken into the running best (set up first at the first point),
    and the columns handed out at the last point. -/
theorem sound0 (c : Dev nD) (i : grid0.Coords) (hx : cond1 i → ¬ k0_cond2 i = 1#1) (s0 : Fin 2) (s1 : Fin 1)
    (X : Vec F S128x2048 .f32) (y : Vec F S128x1 .i32) (s : Best F) (Q : PUnit → sProp 𝕄) :
    iprop(owns (c : Thread nD τ) (stage0_0 s0) fullShare X ∗ owns (c : Thread nD τ) (stage0_1 s1) fullShare y ∗ pt c scr0 s.1 ∗ pt c scr1 s.2
      ∗ (iprop(owns (c : Thread nD τ) (stage0_0 s0) fullShare X
          ∗ owns (c : Thread nD τ) (stage0_1 s1) fullShare (if k0_cond2 i = 1#1 then (bestStep i X (bestIn i s)).2 else y)
          ∗ pt c scr0 (bestStep i X (bestIn i s)).1 ∗ pt c scr1 (bestStep i X (bestIn i s)).2) -∗ Q ⟨⟩))
    ⊢ wp frame (wpE (defs₀ (F := F)) Variants.none c none) Set.univ
        (cc0__argmax_kernel i (stage0_0 s0) (hstage0_0 s0) (stage0_1 s1) (hstage0_1 s1)
          (Memref.whole cc0_scratch0) (Memref.isWhole_whole _) (Memref.whole cc0_scratch1) (Memref.isWhole_whole _)) Q := by
  obtain rfl : s1 = 0 := Subsingleton.elim _ _
  have hy : (owns (c : Thread nD τ) (stage0_1 0) fullShare y : sProp 𝕄) ⊢ pt c (Memref.whole cc0_stg1_0) y := by
    simp only [owns_whole_eq]
    iintro ⟨%f, %h, H⟩
    subst h
    iexact H
  have hy' : ∀ y : Vec F S128x1 .i32, (pt c (Memref.whole cc0_stg1_0) y : sProp 𝕄) ⊢ owns (c : Thread nD τ) (stage0_1 0) fullShare y := by
    intro y
    simp only [owns_whole_eq]
    iintro H
    iexists y
    isplitr
    · ipureintro; rfl
    · iexact H
  iintro ⟨H0, H1, H2, H3, Hk⟩
  ihave H0 := (stage_open c s0 X) $$ H0
  icases H0 with ⟨%f, %hf, H0⟩
  ihave H1 := hy $$ H1
  subst hf
  by_cases h1 : cond1 i
  · have h2 := hx h1
    iapply (argmaxRun_first (F := F) c i h1 h2 (stage0_0 s0) (hstage0_0 s0) f y s Q)
    isplitl [H0]; · iexact H0
    isplitl [H1]; · iexact H1
    isplitl [H2]; · iexact H2
    isplitl [H3]; · iexact H3
    iintro ⟨H0, H1, H2, H3⟩
    iapply Hk
    rw [if_neg h2]
    unfold bestIn
    rw [if_pos h1]
    isplitl [H0]; · iapply (stage_close c s0 f) $$ H0
    isplitl [H1]; · iapply (hy' _) $$ H1
    isplitl [H2]; · iexact H2
    iexact H3
  · by_cases h2 : k0_cond2 i = 1#1
    · iapply (argmaxRun_last (F := F) c i h1 h2 (stage0_0 s0) (hstage0_0 s0) f y s Q)
      isplitl [H0]; · iexact H0
      isplitl [H1]; · iexact H1
      isplitl [H2]; · iexact H2
      isplitl [H3]; · iexact H3
      iintro ⟨H0, H1, H2, H3⟩
      iapply Hk
      rw [if_pos h2]
      unfold bestIn
      rw [if_neg h1]
      isplitl [H0]; · iapply (stage_close c s0 f) $$ H0
      isplitl [H1]; · iapply (hy' _) $$ H1
      isplitl [H2]; · iexact H2
      iexact H3
    · iapply (argmaxRun_mid (F := F) c i h1 h2 (stage0_0 s0) (hstage0_0 s0) f y s Q)
      isplitl [H0]; · iexact H0
      isplitl [H1]; · iexact H1
      isplitl [H2]; · iexact H2
      isplitl [H3]; · iexact H3
      iintro ⟨H0, H1, H2, H3⟩
      iapply Hk
      rw [if_neg h2]
      unfold bestIn
      rw [if_neg h1]
      isplitl [H0]; · iapply (stage_close c s0 f) $$ H0
      isplitl [H1]; · iapply (hy' _) $$ H1
      isplitl [H2]; · iexact H2
      iexact H3

/-- What the one-hot kernel does at point `i`: its block stored whole. -/
theorem sound1 (c : Dev nD) (i : grid1.Coords) (s0 : Fin 1) (s1 : Fin 2)
    (X : Vec F S128x1 .i32) (Y : Vec F S128x8192 .f32) (Q : PUnit → sProp 𝕄) :
    iprop(owns (c : Thread nD τ) (stage1_0 s0) fullShare X ∗ owns (c : Thread nD τ) (stage1_1 s1) fullShare Y
      ∗ (iprop(owns (c : Thread nD τ) (stage1_0 s0) fullShare X
          ∗ owns (c : Thread nD τ) (stage1_1 s1) fullShare (k1_pay1 i X)) -∗ Q ⟨⟩))
    ⊢ wp frame (wpE (defs₀ (F := F)) Variants.none c none) Set.univ
        (cc1__onehot_kernel i (stage1_0 s0) (hstage1_0 s0) (stage1_1 s1) (hstage1_1 s1)) Q := by
  obtain rfl : s0 = 0 := Subsingleton.elim _ _
  fin_cases s1
  · simp only [owns_whole_eq]
    iintro ⟨⟨%x, %hx, H0⟩, ⟨%y, %hy, H1⟩, Hk⟩
    subst hx
    iapply (onehotRun (F := F) c i (Memref.whole cc1_stg1_0) (Memref.isWhole_whole _) x y (k1_pay1 i x)
      (fun f => writes_whole cc1_stg1_0 zero2 inb_S128x8192_S128x8192_0_0 f _ _) Q)
    isplitl [H0]; · iexact H0
    isplitl [H1]; · iexact H1
    iintro ⟨H0, H1⟩
    iapply Hk
    isplitl [H0]
    · iexists x; isplitr; · ipureintro; rfl
      iexact H0
    · iexists (k1_pay1 i x); isplitr; · ipureintro; rfl
      iexact H1
  · simp only [owns_whole_eq]
    iintro ⟨⟨%x, %hx, H0⟩, ⟨%y, %hy, H1⟩, Hk⟩
    subst hx
    iapply (onehotRun (F := F) c i (Memref.whole cc1_stg1_1) (Memref.isWhole_whole _) x y (k1_pay1 i x)
      (fun f => writes_whole cc1_stg1_1 zero2 inb_S128x8192_S128x8192_0_0 f _ _) Q)
    isplitl [H0]; · iexact H0
    isplitl [H1]; · iexact H1
    iintro ⟨H0, H1⟩
    iapply Hk
    isplitl [H0]
    · iexists x; isplitr; · ipureintro; rfl
      iexact H0
    · iexists (k1_pay1 i x); isplitr; · ipureintro; rfl
      iexact H1

end Cert.Proof.Run
-- ==== Proof.Data.lean ====
module

public import proofs.«01_k».proof.Proof.Region

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligationLoose)

variable {F : FTy → Type} [FloatOps F]

local notation "𝕄" => MT nD τ sig Unit (Elt F) ℕ (UR sig nD τ) ℕ

/-! ## The grids' points in closed form -/

theorem coords0 : ∀ t : Fin grid0.N, ((grid0.coords t) 0).val = t.val := by decide +kernel
theorem coords1 : ∀ t : Fin grid1.N, ((grid1.coords t) 0).val = t.val := by decide +kernel
theorem first0 : ∀ t : Fin grid0.N, cond1 (grid0.coords t) ↔ t.val = 0 := by decide +kernel
theorem last0 : ∀ t : Fin grid0.N, k0_cond2 (grid0.coords t) = 1#1 ↔ t.val = 48 := by decide +kernel
theorem xsize0_0 : ∀ t : Fin grid0.N, win0_0.xsize (grid0.coords t) 0 = 128 := by decide +kernel
theorem xsize0_1 : ∀ t : Fin grid0.N, win0_0.xsize (grid0.coords t) 1 = min 2048 (100000 - 2048 * t.val) := by decide +kernel

/-! ## The score does not see past the array -/

/-- The column a lane of block `t` stands for. -/
theorem col_toNat (t : Fin grid0.N) (j : S128x2048.Idx) : (k0_pay6 (grid0.coords t) j).toNat = (j 1).val + 2048 * t.val := by
  have h1 : (j 1).val < 2048 := (j 1).isLt
  have h2 : t.val < 49 := lt_of_lt_of_eq t.isLt N_0
  unfold k0_pay6
  simp only [addi, broadcast, iota, Scalar.muli, coords0]
  have e : List.foldl (fun n a => n * S128x2048.size a + (j a).val) 0 [1] = (j 1).val := by simp
  have e' := congrArg (BitVec.ofNat 32) e
  refine (congrArg (fun b => (IntOp.addi b (IntOp.muli (BitVec.ofNat 32 t.val) 2048#32)).toNat) e').trans ?_
  simp only [IntOp.addi, IntOp.muli, BitVec.toNat_add, BitVec.toNat_mul, BitVec.toNat_ofNat]
  omega

/-- A lane is valid exactly when its column lies in the array. -/
theorem valid_iff (t : Fin grid0.N) (j : S128x2048.Idx) : k0_pay7 (grid0.coords t) j = 1#1 ↔ (j 1).val + 2048 * t.val < 100000 := by
  have h1 : (j 1).val < 2048 := (j 1).isLt
  have h2 : t.val < 49 := lt_of_lt_of_eq t.isLt N_0
  have hc := col_toNat t j
  unfold k0_pay7
  simp only [cmpi, broadcast]
  generalize k0_pay6 (grid0.coords t) j = w at hc ⊢
  generalize (j 1).val = x at h1 hc ⊢
  generalize t.val = n at h2 hc ⊢
  have hi : w.toInt = ((x + 2048 * n : ℕ) : ℤ) := by
    rw [BitVec.toInt_eq_toNat_of_lt (by omega), hc]
  have h5 : (100000#32 : BitVec 32).toInt = 100000 := by decide
  rw [IntOp.cmpi]
  simp only [BitVec.slt, hi, h5]
  by_cases h : x + 2048 * n < 100000
  · have h' : ((x + 2048 * n : ℕ) : ℤ) < 100000 := by omega
    simp only [h, decide_eq_true h']; decide
  · have h' : ¬ ((x + 2048 * n : ℕ) : ℤ) < 100000 := by omega
    simp only [h, decide_eq_false h']; decide

/-- The scores read the block only at its valid lanes. -/
theorem score_congr (i : grid0.Coords) {x x' : Vec F S128x2048 .f32} (h : ∀ j, k0_pay7 i j = 1#1 → x j = x' j) :
    score i x = score i x' := by
  unfold score k0_pay51
  funext j
  simp only [select, Scalar.select]
  by_cases hv : k0_pay7 i j = 1
  · rw [if_pos hv, if_pos hv]
    simp only [addf, log, h j hv]
  · rw [if_neg hv, if_neg hv]

theorem bestStep_congr (i : grid0.Coords) {x x' : Vec F S128x2048 .f32} (h : ∀ j, k0_pay7 i j = 1#1 → x j = x' j) (s : Best F) :
    bestStep i x s = bestStep i x' s := by
  have e := score_congr i h
  unfold score at e
  unfold bestStep blockMax blockArg k0_pay53 k0_pay52
  rw [e]

/-! ## The proof data -/

variable (m : (ℓ : Loc nD τ sig) → Buf (Elt F) ℓ)

/-- The block of the probabilities point `t` fetches: its part inside the array. -/
def blk0 (c : Dev nD) (t : Fin grid0.N) : (win0_0.xblock (grid0.coords t)).Idx → Elt F .f32 :=
  (win0_0.blk t).view.read (Elt F) (m ((c : Thread nD τ).loc main_arg0))

/-- That block filled out to the staging buffer's size with some contents. -/
def blkIn (c : Dev nD) (t : Fin grid0.N) : Vec F S128x2048 .f32 :=
  win0_0.fill (grid0.coords t) (fun _ => Scalar.ofBits .f32 0#32) (blk0 m c t)

/-- The running best after the first `n` blocks. -/
def best (c : Dev nD) : ℕ → Best F
  | 0 => best0
  | n + 1 => if h : n < grid0.N then bestStep (grid0.coords ⟨n, h⟩) (blkIn m c ⟨n, h⟩) (best c n) else best c n

theorem best_succ (c : Dev nD) (t : Fin grid0.N) : best m c (t.val + 1) = bestStep (grid0.coords t) (blkIn m c t) (best m c t.val) := by
  show (if h : t.val < grid0.N then _ else _) = _
  rw [dif_pos t.isLt]

/-- What fills the staging buffer past the array does not matter. -/
theorem bestStep_fill (c : Dev nD) (t : Fin grid0.N) (d) (s : Best F) :
    bestStep (grid0.coords t) (win0_0.fill (grid0.coords t) d (blk0 m c t)) s = bestStep (grid0.coords t) (blkIn m c t) s := by
  refine bestStep_congr _ (fun j hj => ?_) s
  have hv := (valid_iff t j).mp hj
  have hm : win0_0.moved (grid0.coords t) j = true := by
    refine (win0_0.moved_iff _ j).mpr fun a => ?_
    fin_cases a
    · exact lt_of_lt_of_eq (j 0).isLt (xsize0_0 t).symm
    · refine lt_of_lt_of_eq ?_ (xsize0_1 t).symm
      have h1 : (j 1).val < 2048 := (j 1).isLt
      show (j 1).val < _
      omega
  unfold blkIn Pipeline.Window.fill
  rw [dif_pos hm, dif_pos hm]

/-- The sampled columns: the running best's after the last block. -/
def idx (c : Dev nD) : Vec F S128x1 .i32 := (best m c 49).2

/-- The scoped buffers the first call does not touch. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The first call's invariant before point `n`: the scratch buffers hold the running best of the blocks before it. -/
def Phi0 (c : Dev nD) (n : ℕ) : sProp 𝕄 :=
  iprop((∃ s : Best F, ⌜n ≠ 0 → s = best m c n⌝ ∗ pt c scr0 s.1 ∗ pt c scr1 s.2) ∗ rest0 (F := F) c)

/-- The first call's proof data. -/
def dat0 (c : Dev nD) : Dat τ (Elt F) Unit ℕ (UR sig nD τ) ℕ cfg0 c where
  A w := m ((cfg0.win w).arr.view.loc (c : Thread nD τ))
  after w t := match w with
    | ⟨0, _⟩ => blkIn m c t
    | ⟨1, _⟩ => idx m c
  Φ t := Phi0 m c t.val
  q _ := fullShare
  owed _ := 0

theorem before0_0 (c : Dev nD) (t : Fin cfg0.N) (d) :
    (dat0 m c).before (0 : Fin 2) t d = win0_0.fill (grid0.coords t) d (blk0 m c t) := by
  unfold Dat.before; rw [if_pos (fetch0_0 t)]; rfl

theorem idle0_1 (t : Fin cfg0.N) (h : ¬ k0_cond2 (grid0.coords t) = 1#1) : cfg0.idle (1 : Fin 2) (cfg0.grid.coords t) = true := by
  show (!(k0_cond2 (grid0.coords t) == 1#1)) = true
  simp [h]

theorem live0_1 (t : Fin cfg0.N) (h : k0_cond2 (grid0.coords t) = 1#1) : cfg0.idle (1 : Fin 2) (cfg0.grid.coords t) = false := by
  show (!(k0_cond2 (grid0.coords t) == 1#1)) = false
  simp [h]

theorem best_in (c : Dev nD) (t : Fin grid0.N) (s : Best F) (hs : t.val ≠ 0 → s = best m c t.val) :
    bestIn (grid0.coords t) s = best m c t.val := by
  unfold bestIn
  by_cases h : t.val = 0
  · rw [if_pos ((first0 t).mpr h), h]; rfl
  · rw [if_neg (fun h' => h ((first0 t).mp h')), hs h]

theorem body0 (c : Dev nD) : BodyObligationLoose (dat0 m c) (defs₀ (F := F)) Variants.none () Set.univ := fun t => by
  have hx : cond1 (grid0.coords t) → ¬ k0_cond2 (grid0.coords t) = 1#1 := fun h1 h2 => by
    have := (first0 t).mp h1; have := (last0 t).mp h2; omega
  have hcut : win0_0.cut (grid0.coords t) (blkIn m c t) = blk0 m c t := win0_0.cut_fill _ _ _
  rw [bigSep_W0, bigSep_W0]
  rw [show (dat0 m c).owesAt () t.succ = (dat0 m c).owesAt () t.castSucc from rfl]
  by_cases h2 : k0_cond2 (grid0.coords t) = 1#1
  · have ht : t.val = 48 := (last0 t).mp h2
    rewrite [live0_1 t h2]
    simp only
    iintro ⟨HΦ, Ho, ⟨%d0, H0⟩, ⟨%d1, H1⟩⟩
    rw [before0_0 m c t d0]
    dsimp only [dat0]
    unfold Phi0
    icases HΦ with ⟨⟨%s, %hs, H2, H3⟩, Hr⟩
    have e : bestStep (grid0.coords t) (win0_0.fill (grid0.coords t) d0 (blk0 m c t)) (bestIn (grid0.coords t) s) = best m c (t.val + 1) := by
      rw [bestStep_fill, best_in m c t s hs, best_succ]
    iapply (sound0 (F := F) c (grid0.coords t) hx (cfg0.slots t 0) (cfg0.slots t 1) (win0_0.fill (grid0.coords t) d0 (blk0 m c t)) _ s _)
    isplitl [H0]; · iexact H0
    isplitl [H1]; · iexact H1
    isplitl [H2]; · iexact H2
    isplitl [H3]; · iexact H3
    iintro ⟨H0, H1, H2, H3⟩
    rw [e, if_pos h2]
    isplitl [H2 H3 Hr]
    · isplitr [Hr]
      · iexists (best m c (t.val + 1))
        isplitr
        · ipureintro; intro _; rfl
        isplitl [H2]; · iexact H2
        iexact H3
      · iexact Hr
    isplitl [Ho]; · iexact Ho
    isplitl [H0]
    · iexists d0
      change _ ⊢ owns (c : Thread nD τ) (stage0_0 (cfg0.slots t 0)) fullShare (win0_0.fill (grid0.coords t) d0 (win0_0.cut (grid0.coords t) (blkIn m c t)))
      rw [hcut]
    · unfold idx
      rw [ht]
      iexact H1
  · have ht : ¬ t.val = 48 := fun h => h2 ((last0 t).mpr h)
    have hN : t.val < 49 := lt_of_lt_of_eq t.isLt N_0
    have hf : (cfg0.win (1 : Fin 2)).flush t = false := by
      rw [Bool.eq_false_iff]; intro h; have := (flush0_1 t).mp h; omega
    rewrite [idle0_1 t h2, hf]
    simp only
    iintro ⟨HΦ, Ho, ⟨%d0, H0⟩, ⟨%d1, H1⟩⟩
    rw [before0_0 m c t d0]
    dsimp only [dat0]
    unfold Phi0
    icases HΦ with ⟨⟨%s, %hs, H2, H3⟩, Hr⟩
    have e : bestStep (grid0.coords t) (win0_0.fill (grid0.coords t) d0 (blk0 m c t)) (bestIn (grid0.coords t) s) = best m c (t.val + 1) := by
      rw [bestStep_fill, best_in m c t s hs, best_succ]
    iapply (sound0 (F := F) c (grid0.coords t) hx (cfg0.slots t 0) (cfg0.slots t 1) (win0_0.fill (grid0.coords t) d0 (blk0 m c t)) _ s _)
    isplitl [H0]; · iexact H0
    isplitl [H1]; · iexact H1
    isplitl [H2]; · iexact H2
    isplitl [H3]; · iexact H3
    iintro ⟨H0, H1, H2, H3⟩
    rw [e, if_neg h2]
    isplitl [H2 H3 Hr]
    · isplitr [Hr]
      · iexists (best m c (t.val + 1))
        isplitr
        · ipureintro; intro _; rfl
        isplitl [H2]; · iexact H2
        iexact H3
      · iexact Hr
    isplitl [Ho]; · iexact Ho
    isplitl [H0]
    · iexists d0
      change _ ⊢ owns (c : Thread nD τ) (stage0_0 (cfg0.slots t 0)) fullShare (win0_0.fill (grid0.coords t) d0 (win0_0.cut (grid0.coords t) (blkIn m c t)))
      rw [hcut]
    · iexists d1
      iexact H1

/-! ## The second call -/

/-- The scoped buffers the second call does not touch. -/
def rest1 (c : Dev nD) : sProp 𝕄 :=
  Pipeline.scopedRest (Ix := Unit) (Name := ℕ) (U := UR sig nD τ) (Lvl := ℕ) (Val := Elt F) (τ := τ) spec1 c

/-- The second call's proof data, entered with the sampled columns `I`. -/
def dat1 (I : Vec F S128x1 .i32) (c : Dev nD) : Dat τ (Elt F) Unit ℕ (UR sig nD τ) ℕ cfg1 c where
  A w := match w with
    | ⟨0, _⟩ => I
    | ⟨1, _⟩ => m ((c : Thread nD τ).loc main_v1)
  after w t := match w with
    | ⟨0, _⟩ => I
    | ⟨1, _⟩ => k1_pay1 (grid1.coords t) I
  Φ _ := rest1 (F := F) c
  q _ := fullShare
  owed _ := 0

/-- The columns' window is the whole array at every point. -/
theorem read1_0 (c : Dev nD) (t : Fin grid1.N) (I : Vec F S128x1 .i32) (d : Vec F S128x1 .i32) :
    win1_0.fill (grid1.coords t) d ((win1_0.blk t).view.read (Elt F) (show Buf (Elt F) (win1_0.arr.view.loc (c : Thread nD τ)) from I)) = I := by
  funext j
  have hm : win1_0.moved (grid1.coords t) j = true := (win1_0.moved_iff _ j).mpr fun a => (j a).isLt
  unfold Pipeline.Window.fill
  rw [dif_pos hm]
  show I _ = I j
  congr 1
  funext a
  apply Fin.ext
  fin_cases a
  · show 0 * 128 + 1 * (j 0).val = (j 0).val
    omega
  · show 0 * 1 + 1 * (j 1).val = (j 1).val
    omega

theorem before1_0 (I : Vec F S128x1 .i32) (c : Dev nD) (t : Fin cfg1.N) (d) : (dat1 m I c).before (0 : Fin 2) t d = I := by
  by_cases hf : (cfg1.win (0 : Fin 2)).fetch t = true
  · rw [Dat.before_fetched _ _ _ hf]
    exact read1_0 c t I d
  · rw [Dat.before_unfetched_in _ (0 : Fin 2) rfl t (Bool.eq_false_iff.mpr hf) (fun _ => rfl)]
    exact win1_0.fill_cut _ _

theorem body1 (I : Vec F S128x1 .i32) (c : Dev nD) : BodyObligationLoose (dat1 m I c) (defs₀ (F := F)) Variants.none () Set.univ := fun t => by
  rw [bigSep_W1, bigSep_W1]
  rw [show (dat1 m I c).owesAt () t.succ = (dat1 m I c).owesAt () t.castSucc from rfl]
  simp only
  iintro ⟨HΦ, Ho, ⟨%d0, H0⟩, ⟨%d1, H1⟩⟩
  rw [before1_0 m I c t d0]
  iapply (sound1 (F := F) c (grid1.coords t) (cfg1.slots t 0) (cfg1.slots t 1) I _ _)
  isplitl [H0]; · iexact H0
  isplitl [H1]; · iexact H1
  iintro ⟨H0, H1⟩
  dsimp only [dat1]
  isplitl [HΦ]; · iexact HΦ
  isplitl [Ho]; · iexact Ho
  isplitl [H0]; · iexact H0
  · generalize k1_pay1 (grid1.coords t) I = P
    iexists P
    rw [win1_1.fill_cut]
    iexact H1

end Cert.Proof.Run
-- ==== Proof.Hash.lean ====
/-
  The random word: the counter-based generator both programs run, at the key (0, 42) and the counter (0, n), as plain
  arithmetic on 32-bit words. A state is the pair of words; a round adds the second word to the first, rotates the second and
  xors it with the sum; after four rounds the key words are added in. The kernel runs it on a block of the table of
  probabilities at a time and the reference on the whole table at once; both are proved to compute `word`.
-/
module

public import Mathlib.Logic.Basic

@[expose] public section

namespace Cert.Proof.Hash

/-- A state of the generator: two words. -/
abbrev State := BitVec 32 × BitVec 32

/-- One round, rotating the second word left by `l` bits (`r` is `32 - l`). -/
def mix (l r : Nat) (s : State) : State :=
  (s.1 + s.2, (s.1 + s.2) ^^^ ((s.2 <<< l) ||| (s.2 >>> r)))

/-- Four rounds of the first rotation schedule. -/
def quadA (s : State) : State := mix 6 26 (mix 26 6 (mix 15 17 (mix 13 19 s)))

/-- Four rounds of the second rotation schedule. -/
def quadB (s : State) : State := mix 24 8 (mix 16 16 (mix 29 3 (mix 17 15 s)))

/-- The key words `a` and `b` and the schedule's count `n` added in. -/
def inject (a b n : BitVec 32) (s : State) : State := (s.1 + a, s.2 + b + n)

/-- The state before the first round at the counter's low word `n`: the high word and the key's first word are zero. -/
def start (n : BitVec 32) : State := (0#32 + 0#32, n + 42#32)

def group1 (s : State) : State := inject 42#32 466689008#32 1#32 (quadA s)
def group2 (s : State) : State := inject 466689008#32 0#32 2#32 (quadB s)
def group3 (s : State) : State := inject 0#32 42#32 3#32 (quadA s)
def group4 (s : State) : State := inject 42#32 466689008#32 4#32 (quadB s)
def group5 (s : State) : State := inject 466689008#32 0#32 5#32 (quadA s)

/-- The state after all twenty rounds. -/
def final (n : BitVec 32) : State := group5 (group4 (group3 (group2 (group1 (start n)))))

/-- The random word of the counter `n`. -/
def word (n : BitVec 32) : BitVec 32 := (final n).1 ^^^ (final n).2

/-- The bits of a float in `[1, 2)` made of the word's high bits. -/
def unitBits (n : BitVec 32) : BitVec 32 := (word n >>> 9) ||| 1065353216#32

end Cert.Proof.Hash
-- ==== Proof.KernelHash.lean ====
/-
  The random words of the kernel's blocks: lane by lane the first call's integer payloads are the rounds of `Hash`, so the word
  a lane ends with is `Hash.word` of the place the lane stands for.
-/
module

public import proofs.«01_k».proof.Proof.Data
public import proofs.«01_k».proof.Proof.Hash

@[expose] public section

set_option maxRecDepth 16384

noncomputable section

namespace Cert.Proof.Run

open Cert.KernelIdeal Cert.KernelIdeal.Gen
open Idealize.ShloMosaic Idealize.ShloMosaic.TcCoe

/-- One round, from the sum and the rotated word xored with it in the kernel's order. -/
theorem step (l r : Nat) (a b x y : BitVec 32) (hx : x = a + b) (hy : y = ((b <<< l) ||| (b >>> r)) ^^^ x) :
    Hash.mix l r (a, b) = (x, y) := by
  subst hx
  rw [hy, BitVec.xor_comm]
  rfl

/-- The first four rounds and their key words. -/
theorem rounds1 (i : grid0.Coords) (y : S128x2048.Idx) (n : BitVec 32) (hn : k0_pay8 i y = n + 42#32) :
    Hash.group1 (Hash.start n) = (k0_pay15 i y + 42#32, k0_pay17 (k0_pay14 i) (k0_pay15 i) (k0_pay16 i) 26#32 y) := by
  unfold Hash.group1 Hash.quadA Hash.start
  rw [← hn, step 13 19 (0#32 + 0#32) (k0_pay8 i y) (k0_pay9 i y) (k0_pay10 i y) rfl rfl, step 15 17 _ _ (k0_pay11 i y) (k0_pay12 i y) rfl rfl,
    step 26 6 _ _ (k0_pay13 i y) (k0_pay14 i y) rfl rfl,
    step 6 26 _ _ (k0_pay15 i y) ((k0_pay16 i y ||| (k0_pay14 i y >>> 26)) ^^^ k0_pay15 i y) rfl rfl]
  rfl

/-- The second four rounds and their key words. -/
theorem rounds2 (v38 v39 v41 : IVec S128x2048 32) (y : S128x2048.Idx) :
    Hash.group2 (v39 y + 42#32, k0_pay17 v38 v39 v41 26#32 y)
      = (k0_pay24 v38 v39 v41 26#32 y + 466689008#32, k0_pay25 v38 v39 v41 26#32 y) := by
  unfold Hash.group2 Hash.quadB
  rw [step 17 15 (v39 y + 42#32) (k0_pay17 v38 v39 v41 26#32 y) (k0_pay18 v38 v39 v41 26#32 y) (k0_pay19 v38 v39 v41 26#32 y) rfl rfl,
    step 29 3 _ _ (k0_pay20 v38 v39 v41 26#32 y) (k0_pay21 v38 v39 v41 26#32 y) rfl rfl,
    step 16 16 _ _ (k0_pay22 v38 v39 v41 26#32 y) (k0_pay23 v38 v39 v41 26#32 y) rfl rfl,
    step 24 8 _ _ (k0_pay24 v38 v39 v41 26#32 y)
      (((k0_pay23 v38 v39 v41 26#32 y <<< 24) ||| (k0_pay23 v38 v39 v41 26#32 y >>> 8)) ^^^ k0_pay24 v38 v39 v41 26#32 y) rfl rfl]
  rfl

/-- The third four rounds and their key words, from the second word and the first sum. -/
theorem rounds3 (v85 v86 : IVec S128x2048 32) (y : S128x2048.Idx) (a : BitVec 32) (h : v86 y = a + v85 y) :
    Hash.group3 (a, v85 y) = (k0_pay32 v85 v86 13#32 y + 0#32, k0_pay33 v85 v86 13#32 y) := by
  unfold Hash.group3 Hash.quadA
  rw [step 13 19 _ _ (v86 y) (k0_pay27 v85 v86 13#32 y) h rfl,
    step 15 17 _ _ (k0_pay28 v85 v86 13#32 y) (k0_pay29 v85 v86 13#32 y) rfl rfl,
    step 26 6 _ _ (k0_pay30 v85 v86 13#32 y) (k0_pay31 v85 v86 13#32 y) rfl rfl,
    step 6 26 _ _ (k0_pay32 v85 v86 13#32 y)
      (((k0_pay31 v85 v86 13#32 y <<< 6) ||| (k0_pay31 v85 v86 13#32 y >>> 26)) ^^^ k0_pay32 v85 v86 13#32 y) rfl rfl]
  rfl

/-- The fourth four rounds and their key words. -/
theorem rounds4 (v85 v86 v127 v132 : IVec S128x2048 32) (y : S128x2048.Idx) (h1 : v127 = k0_pay36 v85 v86 13#32)
    (h2 : v132 = k0_pay37 v85 v86 13#32) :
    Hash.group4 (k0_pay32 v85 v86 13#32 y + 0#32, k0_pay33 v85 v86 13#32 y)
      = (k0_pay41 v127 v132 y + 42#32, k0_pay42 v127 v132 y) := by
  unfold Hash.group4 Hash.quadB
  rw [step 17 15 (k0_pay32 v85 v86 13#32 y + 0#32) (k0_pay33 v85 v86 13#32 y) (k0_pay34 v85 v86 13#32 y) (k0_pay35 v85 v86 13#32 y) rfl rfl,
    step 29 3 _ _ (v127 y) (k0_pay38 v127 v132 y) (by rw [h1]; rfl) (by rw [h2]; rfl),
    step 16 16 _ _ (k0_pay39 v127 v132 y) (k0_pay40 v127 v132 y) rfl rfl,
    step 24 8 _ _ (k0_pay41 v127 v132 y)
      (((k0_pay40 v127 v132 y <<< 24) ||| (k0_pay40 v127 v132 y >>> 8)) ^^^ k0_pay41 v127 v132 y) rfl rfl]
  rfl

/-- The last four rounds and their key words. -/
theorem rounds5 (v127 v132 : IVec S128x2048 32) (y : S128x2048.Idx) :
    Hash.group5 (k0_pay41 v127 v132 y + 42#32, k0_pay42 v127 v132 y)
      = (k0_pay49 v127 v132 y + 466689008#32,
        ((k0_pay50 v127 v132 y ||| (k0_pay48 v127 v132 y >>> 26)) ^^^ k0_pay49 v127 v132 y) + 0#32 + 5#32) := by
  unfold Hash.group5 Hash.quadA
  rw [step 13 19 (k0_pay41 v127 v132 y + 42#32) (k0_pay42 v127 v132 y) (k0_pay43 v127 v132 y) (k0_pay44 v127 v132 y) rfl rfl,
    step 15 17 _ _ (k0_pay45 v127 v132 y) (k0_pay46 v127 v132 y) rfl rfl,
    step 26 6 _ _ (k0_pay47 v127 v132 y) (k0_pay48 v127 v132 y) rfl rfl,
    step 6 26 _ _ (k0_pay49 v127 v132 y)
      ((k0_pay50 v127 v132 y ||| (k0_pay48 v127 v132 y >>> 26)) ^^^ k0_pay49 v127 v132 y) rfl rfl]
  rfl

/-- The state a lane ends with. -/
theorem rounds (i : grid0.Coords) (y : S128x2048.Idx) (n : BitVec 32) (hn : k0_pay8 i y = n + 42#32) :
    Hash.final n = ((hash i).2.1 y + 466689008#32,
      (((hash i).2.2 y ||| ((hash i).1 y >>> 26)) ^^^ (hash i).2.1 y) + 0#32 + 5#32) := by
  unfold Hash.final
  rw [rounds1 i y n hn, rounds2,
    rounds3 _ (k0_pay26 (k0_pay14 i) (k0_pay15 i) (k0_pay16 i) 26#32) y
      (k0_pay24 (k0_pay14 i) (k0_pay15 i) (k0_pay16 i) 26#32 y + 466689008#32) rfl,
    rounds4 _ _ _ _ _ rfl rfl, rounds5]
  rfl

/-- The place a lane of block `t` stands for, with the key's second word added. -/
theorem place_lane (t : Fin grid0.N) (y : S128x2048.Idx) :
    k0_pay8 (grid0.coords t) y = BitVec.ofNat 32 (100000 * (y 0).val + ((y 1).val + 2048 * t.val)) + 42#32 := by
  have h0 : (y 0).val < 128 := (y 0).isLt
  have h1 : (y 1).val < 2048 := (y 1).isLt
  have h2 : t.val < 49 := lt_of_lt_of_eq t.isLt N_0
  have hc := col_toNat t y
  unfold k0_pay8
  show (iota .tc S128x2048 32 [0] iota_S128x2048_d0_w32 y * 100000#32 + k0_pay6 (grid0.coords t) y) + 42#32 = _
  have e1 : iota .tc S128x2048 32 [0] iota_S128x2048_d0_w32 y = BitVec.ofNat 32 (y 0).val := by
    unfold iota
    refine congrArg (BitVec.ofNat 32) ?_
    simp
  rw [e1]
  refine congrArg (· + 42#32) ?_
  generalize k0_pay6 (grid0.coords t) y = col at *
  generalize (y 0).val = a at *
  generalize (y 1).val = b at *
  apply BitVec.eq_of_toNat_eq
  simp only [BitVec.toNat_add, BitVec.toNat_mul, BitVec.toNat_ofNat, hc]
  omega

end Cert.Proof.Run
-- ==== Proof.Launch.lean ====
module

public import proofs.«01_k».proof.Proof.Data
public import Idealize.ShloMosaic.Lib.Pipeline.ValueKit.Geometry

@[expose] public section

set_option maxRecDepth 16384

noncomputable section

namespace Cert.Proof.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligationLoose)

variable {F : FTy → Type} [FloatOps F]

local notation "𝕄" => MT nD τ sig Unit (Elt F) ℕ (UR sig nD τ) ℕ

variable (m : (ℓ : Loc nD τ sig) → Buf (Elt F) ℓ)

/-! ## The arrays the calls leave -/

/-- The index of row `r` in a column vector. -/
def rowIx (r : Fin 128) : S128x1.Idx := fun a => match a with
  | ⟨0, _⟩ => r
  | ⟨1, _⟩ => ⟨0, Nat.one_pos⟩

/-- The one-hot array of the columns `I`: one where a row's column is the sampled one, zero elsewhere. -/
def hotOf (I : Vec F S128x1 .i32) : Vec F S128x100000 .f32 := fun i =>
  FloatOps.sitofp .f32 (BitVec.setWidth 32 (IntOp.cmpi .eq (BitVec.ofNat 32 (i 1).val) (I (rowIx (i 0)))))

/-- A block of the second call is its part of that array. -/
theorem pay_hot (t : Fin grid1.N) (I : Vec F S128x1 .i32) (y : S128x8192.Idx) (i : S128x100000.Idx) (h0 : (i 0).val = (y 0).val)
    (h1 : (i 1).val = 8192 * t.val + (y 1).val) : k1_pay1 (grid1.coords t) I y = hotOf I i := by
  unfold k1_pay1 hotOf
  have e : shapeCast S128x1 I shapeCasts_S128x1_S128x1 = I := shapeCast_self I _
  rw [e]
  simp only [sitofp, extui, cmpi, addi, iota, broadcast, broadcastTo, Scalar.muli, coords1]
  have ei : BitVec.ofNat 32 (i 1).val = IntOp.addi (BitVec.ofNat 32 (y 1).val) (IntOp.muli (BitVec.ofNat 32 t.val) 8192#32) := by
    apply BitVec.eq_of_toNat_eq
    simp only [IntOp.addi, IntOp.muli, BitVec.toNat_add, BitVec.toNat_mul, BitVec.toNat_ofNat, h1]
    omega
  have e1 : List.foldl (fun n a => n * S128x8192.size a + (y a).val) 0 [1] = (y 1).val := by simp
  rw [ei, ← e1]
  exact congrArg (fun f => FloatOps.sitofp .f32 (BitVec.setWidth 32 (IntOp.cmpi .eq _ (I f))))
    (funext fun a => by fin_cases a; exact Fin.ext h0.symm; rfl)

theorem map1_1 : ∀ t : Fin grid1.N, cc1_transform_1 (grid1.coords t) 1 = t.val := by decide +kernel

/-- The second call's blocks cover its array. -/
theorem arr1_1 (I : Vec F S128x1 .i32) (c : Dev nD) : (dat1 m I c).arrAt (1 : Fin 2) cfg1.N = hotOf I := by
  refine (dat1 m I c).arrAt_eq_of_covers (1 : Fin 2) _ (by decide +kernel) fun t hf y => ?_
  refine pay_hot t I _ _ ?_ ?_
  · show 0 * 128 + 1 * (y 0).val = (y 0).val
    omega
  · have e := map1_1 t
    show (cc1_transform_1 (grid1.coords t) 1) * 8192 + 1 * (y 1).val = 8192 * t.val + (y 1).val
    rw [e]; omega

/-- The first call's write-back covers its array: it leaves the sampled columns. -/
theorem arr0_1 (c : Dev nD) : (dat0 m c).arrAt (1 : Fin 2) cfg0.N = idx m c := by
  refine (dat0 m c).arrAt_eq_of_covers (1 : Fin 2) _ (by decide +kernel) fun t hf y => ?_
  show idx m c _ = idx m c _
  congr 1
  funext a
  apply Fin.ext
  fin_cases a
  · show (y 0).val = 0 * 128 + 1 * (y 0).val
    omega
  · show (y 1).val = 0 * 1 + 1 * (y 1).val
    omega

theorem arr0_0 (c : Dev nD) : (dat0 m c).arrAt (0 : Fin 2) cfg0.N = m ((c : Thread nD τ).loc main_arg0) :=
  ((dat0 m c).arrAt_in (0 : Fin 2) rfl _).trans rfl

theorem arr1_0 (c : Dev nD) : (dat1 m (idx m c) c).arrAt (0 : Fin 2) cfg1.N = idx m c :=
  ((dat1 m (idx m c) c).arrAt_in (0 : Fin 2) rfl _).trans rfl

/-! ## The two calls as regions -/

/-- What the calls leave in the arrays they write. -/
def outs : Outs (F := F) := fun _ r c =>
  Function.update (Function.update (V0 m c) (Proc.devRef .tc main_v0) (idx m c)) (Proc.devRef .tc main_v1) (hotOf (idx m c)) (Proc.devRef .tc r)

theorem outs_v0 (n : ℕ) (c : Dev nD) : outs m n main_v0 c = idx m c := by
  unfold outs
  rw [Function.update_of_ne (StableHlo.devRef_ne_of_ne (by decide)), Function.update_self]

theorem outs_v1 (n : ℕ) (c : Dev nD) : outs m n main_v1 c = hotOf (idx m c) := by
  unfold outs
  rw [Function.update_self]

theorem V1_v0 (c : Dev nD) : V1 m (outs m) c (Proc.devRef .tc main_v0) = idx m c := by
  simp only [V1, Function.update_self]
  exact outs_v0 m 1 c

theorem V2_v1 (c : Dev nD) : V2 m (outs m) c (Proc.devRef .tc main_v1) = hotOf (idx m c) := by
  simp only [V2, Function.update_self]
  exact outs_v1 m 2 c

/-- The two calls' proof data. -/
def pdats : (p : Fin 2) → (c : Dev nD) → Dat τ (Elt F) Unit ℕ (UR sig nD τ) ℕ (cfgs p) c
  | 0 => fun c => dat0 m c
  | 1 => fun c => dat1 m (idx m c) c
  | ⟨_ + 2, h⟩ => absurd h (Nat.not_lt.2 (Nat.le_add_left _ _))

/-- Every semaphore of a TensorCore has the one index, at the one level. -/
def lvls : GSem nD τ sig → Finset Unit := fun g => if g.1.2 = .tc then {()} else ∅

theorem cut (p : Fin 2) : Pipeline.LevelCut (pcfgs (F := F)) adm () lvls (fun _ _ => 0) p (fun _ => 0) (fun _ => 0) where
  hι c w s := by unfold lvls; rw [if_pos rfl]; exact Finset.mem_singleton_self _
  hιb c w s := le_refl _
  hD c g i h := absurd h (lt_irrefl _)

/-- What the thread carries beside its unscoped buffers. -/
abbrev E (_ : Fin 3) (c : Dev nD) : sProp 𝕄 := iprop(∃ W, owes (c : Thread nD τ) (0 : CellTallies nD τ sig Unit) W)

def R0 : RegionSeg (pcfgs (F := F)) adm (pdats m) () defs₀ Variants.none lvls (fun _ _ => 0) 0 :=
  RegionSeg.ofHeld (pcfgs (F := F)) adm (pdats m) () defs₀ Variants.none lvls (fun _ _ => 0) 0 (fun _ => 0)
    (fun _ => iprop(emp)) (fun _ => iprop(emp)) launch0.toP rfl (fun c => body0 m c) (fun _ _ => rfl) (fun _ => rfl) (fun _ w => by fin_cases w <;> rfl)
    (fun c => by
      show iprop(Pipeline.scopedRest spec0 c ∗ emp) ⊢ Phi0 m c 0
      rw [scopedRest0_eq]
      unfold Phi0 rest0
      iintro ⟨⟨⟨%f0, H0⟩, ⟨%f1, H1⟩, Hr⟩, -⟩
      isplitr [Hr]
      · iexists (f0, f1)
        isplitr; · ipureintro; intro h; exact absurd rfl h
        isplitl [H0]; · iexact H0
        iexact H1
      · iexact Hr)
    (fun c => by
      show Phi0 m c _ ⊢ iprop(Pipeline.scopedRest spec0 c ∗ emp)
      rw [scopedRest0_eq]
      unfold Phi0 rest0
      iintro ⟨⟨%s, -, H0, H1⟩, Hr⟩
      isplitl
      · isplitl [H0]; · iexists s.1; iexact H0
        isplitl [H1]; · iexists s.2; iexact H1
        iexact Hr
      · iempintro)
    (fun _ => 0) (cut 0) (fun c => StableHlo.held (c : Thread nD τ) (Pipeline.ucRefs τ sig \ Pipeline.arrRefs spec0) (V0 m c))
    (V0 m) (V1 m (outs m))
    (fun c w => by fin_cases w <;> rfl)
    (fun c w => by
      fin_cases w
      · exact (arr0_0 m c).trans (V1_of m (outs m) c main_arg0 (by decide)).symm
      · exact (arr0_1 m c).trans (V1_v0 m c).symm)

/-- The second call's region: entered with the sampled columns in the first call's array. -/
def R1 : RegionSeg (pcfgs (F := F)) adm (pdats m) () defs₀ Variants.none lvls (fun _ _ => 0) 1 :=
  RegionSeg.ofHeld (pcfgs (F := F)) adm (pdats m) () defs₀ Variants.none lvls (fun _ _ => 0) 1 (fun _ => 0)
    (fun _ => iprop(emp)) (fun _ => iprop(emp)) launch1.toP rfl (fun c => body1 m (idx m c) c) (fun _ _ => rfl) (fun _ => rfl) (fun _ w => by fin_cases w <;> rfl)
    (fun c => by
      show iprop(Pipeline.scopedRest spec1 c ∗ emp) ⊢ rest1 (F := F) c
      unfold rest1
      iintro ⟨H, -⟩
      iexact H)
    (fun c => by
      show rest1 (F := F) c ⊢ iprop(Pipeline.scopedRest spec1 c ∗ emp)
      unfold rest1
      iintro H
      isplitl
      · iexact H
      · iempintro)
    (fun _ => 0) (cut 1) (fun c => StableHlo.held (c : Thread nD τ) (Pipeline.ucRefs τ sig \ Pipeline.arrRefs spec1) (V1 m (outs m) c))
    (V1 m (outs m)) (V2 m (outs m))
    (fun c w => by
      fin_cases w
      · exact (V1_v0 m c).symm
      · exact (V1_of m (outs m) c main_v1 (by decide)).symm)
    (fun c w => by
      fin_cases w
      · exact (arr1_0 m c).trans ((V2_of m (outs m) c main_v0 (by decide)).trans (V1_v0 m c)).symm
      · exact (arr1_1 m (idx m c) c).trans (V2_v1 m c).symm)

/-! ## The run -/

theorem pre0 (c : Dev nD) : iprop(StableHlo.held (c : Thread nD τ) (Pipeline.ucRefs τ sig) (V0 m c) ∗ E (F := F) 0 c) ⊢ (R0 m).pre c := by
  show _ ⊢ iprop(StableHlo.held (c : Thread nD τ) (Pipeline.arrRefs spec0) (V0 m c) ∗ emp
    ∗ StableHlo.held (c : Thread nD τ) (Pipeline.ucRefs τ sig \ Pipeline.arrRefs spec0) (V0 m c) ∗ E (F := F) 0 c)
  rw [StableHlo.held_sub_split (c : Thread nD τ) (Pipeline.arrRefs_sub_ucRefs spec0 winFacts0.arr_unscoped) (V0 m c)]
  iintro ⟨⟨Ha, Hr⟩, HE⟩
  isplitl [Ha]; · iexact Ha
  isplitr; · iempintro
  isplitl [Hr]; · iexact Hr
  iexact HE

theorem post0 (c : Dev nD) : (R0 m).post c ⊢ iprop(StableHlo.held (c : Thread nD τ) (Pipeline.ucRefs τ sig) (V1 m (outs m) c) ∗ E (F := F) 1 c) := by
  show iprop(StableHlo.held (c : Thread nD τ) (Pipeline.arrRefs spec0) (V1 m (outs m) c) ∗ emp
    ∗ StableHlo.held (c : Thread nD τ) (Pipeline.ucRefs τ sig \ Pipeline.arrRefs spec0) (V0 m c) ∗ E (F := F) 1 c) ⊢ _
  rw [StableHlo.held_sub_split (c : Thread nD τ) (Pipeline.arrRefs_sub_ucRefs spec0 winFacts0.arr_unscoped) (V1 m (outs m) c)]
  rw [StableHlo.held_congr (c : Thread nD τ) (S := Pipeline.ucRefs τ sig \ Pipeline.arrRefs spec0) (V := V1 m (outs m) c) (V' := V0 m c) fun b hb => by
    have hne : b ≠ Proc.devRef .tc main_v0 := fun h => by subst h; revert hb; decide
    exact Function.update_of_ne hne _ _]
  iintro ⟨Ha, -, Hr, HE⟩
  isplitr [HE]
  · isplitl [Ha]; · iexact Ha
    iexact Hr
  iexact HE

theorem pre1 (c : Dev nD) : iprop(StableHlo.held (c : Thread nD τ) (Pipeline.ucRefs τ sig) (V1 m (outs m) c) ∗ E (F := F) 1 c) ⊢ (R1 m).pre c := by
  show _ ⊢ iprop(StableHlo.held (c : Thread nD τ) (Pipeline.arrRefs spec1) (V1 m (outs m) c) ∗ emp
    ∗ StableHlo.held (c : Thread nD τ) (Pipeline.ucRefs τ sig \ Pipeline.arrRefs spec1) (V1 m (outs m) c) ∗ E (F := F) 1 c)
  rw [StableHlo.held_sub_split (c : Thread nD τ) (Pipeline.arrRefs_sub_ucRefs spec1 winFacts1.arr_unscoped) (V1 m (outs m) c)]
  iintro ⟨⟨Ha, Hr⟩, HE⟩
  isplitl [Ha]; · iexact Ha
  isplitr; · iempintro
  isplitl [Hr]; · iexact Hr
  iexact HE

theorem post1 (c : Dev nD) : (R1 m).post c ⊢ iprop(StableHlo.held (c : Thread nD τ) (Pipeline.ucRefs τ sig) (V2 m (outs m) c) ∗ E (F := F) 2 c) := by
  show iprop(StableHlo.held (c : Thread nD τ) (Pipeline.arrRefs spec1) (V2 m (outs m) c) ∗ emp
    ∗ StableHlo.held (c : Thread nD τ) (Pipeline.ucRefs τ sig \ Pipeline.arrRefs spec1) (V1 m (outs m) c) ∗ E (F := F) 2 c) ⊢ _
  rw [StableHlo.held_sub_split (c : Thread nD τ) (Pipeline.arrRefs_sub_ucRefs spec1 winFacts1.arr_unscoped) (V2 m (outs m) c)]
  rw [StableHlo.held_congr (c : Thread nD τ) (S := Pipeline.ucRefs τ sig \ Pipeline.arrRefs spec1) (V := V2 m (outs m) c) (V' := V1 m (outs m) c) fun b hb => by
    have hne : b ≠ Proc.devRef .tc main_v1 := fun h => by subst h; revert hb; decide
    exact Function.update_of_ne hne _ _]
  iintro ⟨Ha, -, Hr, HE⟩
  isplitr [HE]
  · isplitl [Ha]; · iexact Ha
    iexact Hr
  iexact HE

/-- The launch's element: the staging cells' owners and the transfers' tokens. -/
def u₀ : UR sig nD τ := initOf (Pipeline.cells cfgs cellOf_inj) (Pipeline.launchToks cfgs cellOf_inj)

theorem launch_E (ρ : Dev nD → PrngReg) :
    iprop((bigSep Finset.univ fun c : Dev nD => iprop(unscopedSems0 c ∗ owes (c : Thread nD τ) (0 : CellTallies nD τ sig Unit) ∅
        ∗ Pipeline.launchCred (fun _ => 0) c ∗ prngReg c (ρ c) ∗ emp)) ∗ levAts lvls (fun _ _ => 0))
      ⊢ (|={Set.univ}=> bigSep Finset.univ (E (F := F) 0) : sProp 𝕄) := by
  have h : (bigSep Finset.univ fun c : Dev nD => iprop(unscopedSems0 c ∗ owes (c : Thread nD τ) (0 : CellTallies nD τ sig Unit) ∅
        ∗ Pipeline.launchCred (fun _ => 0) c ∗ prngReg c (ρ c) ∗ emp)) ⊢ (bigSep Finset.univ (E (F := F) 0) : sProp 𝕄) :=
    bigSep_mono fun c _ => by
      show (iprop(unscopedSems0 c ∗ owes (c : Thread nD τ) (0 : CellTallies nD τ sig Unit) ∅
        ∗ Pipeline.launchCred (fun _ => 0) c ∗ prngReg c (ρ c) ∗ emp) : sProp 𝕄) ⊢ E (F := F) 0 c
      unfold E
      iintro ⟨-, HO, -⟩
      iexists ∅
      iexact HO
  iintro ⟨H, -⟩
  ihave H' := h $$ H
  imodintro
  iexact H'

set_option backward.isDefEq.respectTransparency.types false in
/-- Every weakly fair execution of the kernel's program ends with the argument as launched, the result's array at the
    one-hot rows of the sampled columns, and every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v1) = hotOf (idx m c))
      ∧ r.2.sem = fun _ => 0) := by
  refine Pipeline.θ_run_regions_kit_dev_sems (pcfgs (F := F)) adm (pdats m) () cellOf_inj emb₁ defs₀ Variants.none lvls (fun _ _ => 0) m ρ main
    (segs Variants.none lvls (fun _ _ => 0) (E (F := F)) () (pdats m) (R0 m) (R1 m))
    (fun c Q => by
      rewrite [main_chain c, Seg.run_eq_chain,
        show (segs Variants.none lvls (fun _ _ => 0) (E (F := F)) () (pdats m) (R0 m) (R1 m) c).map Seg.prog = [
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => by unfold lvls; exact if_neg hg) (fun _ => iprop(emp)) u₀ (by
      unfold u₀
      iintro Hu
      ihave H := (show (ownU (initOf (Pipeline.cells cfgs cellOf_inj) (Pipeline.launchToks cfgs cellOf_inj) : UR sig nD τ) : sProp 𝕄)
        ⊢ BI.own (emb₁ (initOf (Pipeline.cells cfgs cellOf_inj) (Pipeline.launchToks cfgs cellOf_inj))) from BI.Entails.refl _) $$ Hu
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) 0 c))
    (Tₙ := fun c => StableHlo.held (c : Thread nD τ) (Pipeline.ucRefs τ sig) (V2 m (outs m) c))
    (hch := fun c => ⟨pre0 m c, (post0 m c).trans (pre1 m c), post1 m c⟩)
    (hinit := ?_) (QY := fun c s => s.mem ((c.tc : Thread nD τ).loc main_arg0) = m ((c.tc : Thread nD τ).loc main_arg0)
      ∧ s.mem ((c.tc : Thread nD τ).loc main_v1) = hotOf (idx m c))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => 0) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_E (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V2_main_arg0 m (outs m) c),
        (h (Proc.devRef .tc main_v1) (Finset.mem_filter.mpr ⟨StableHlo.devRef_mem_tcRefs main_v1, by decide⟩)).trans (V2_v1 m c)⟩
    · iexact HSI

end Cert.Proof.Run
-- ==== Proof.RefOps.lean ====
/-
  The reference's program as nine lists of host operations, cut where the argument of the proof cuts it: the key and the
  counters, the generator's start, its five groups of four rounds, the scores, and the position of the largest score.
-/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-- The operations of the key, the range of the unit draw and the counters. -/
abbrev keyOps : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_cst (constant S_ .f32 0x00000000#32),
    nullary main_cst_2 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_2) (TRef.of (T := ⟨S_, .f32⟩) main_call0_v1) id,
    TRef.unary (TRef.of (T := ⟨S_, .f32⟩) main_call0_v0) (TRef.of (T := ⟨S1x1, .f32⟩) main_call0_v2) (broadcastInDim S1x1 ![] bcast_S_S1x1),
    TRef.unary (TRef.of (T := ⟨S_, .f32⟩) main_call0_v1) (TRef.of (T := ⟨S1x1, .f32⟩) main_call0_v3) (broadcastInDim S1x1 ![] bcast_S_S1x1),
    TRef.unary (TRef.of (T := ⟨S2, .i32⟩) main_v6) (TRef.of (T := ⟨S1, .i32⟩) main_call0_v4) (extractStridedSlice S1 ![0] · slices_S2_S1_0),
    TRef.reshape (TRef.of (T := ⟨S1, .i32⟩) main_call0_v4) (TRef.of (T := ⟨S_, .i32⟩) main_call0_v5) (rfl : (.i32 : EltTy) = .i32) shapeCasts_S1_S_,
    TRef.unary (TRef.of (T := ⟨S2, .i32⟩) main_v6) (TRef.of (T := ⟨S1, .i32⟩) main_call0_v6) (extractStridedSlice S1 ![1] · slices_S2_S1_1),
    TRef.reshape (TRef.of (T := ⟨S1, .i32⟩) main_call0_v6) (TRef.of (T := ⟨S_, .i32⟩) main_call0_v7) (rfl : (.i32 : EltTy) = .i32) shapeCasts_S1_S_,
    TRef.nullary (TRef.of (T := ⟨S128x100000, .i64⟩) main_call0_v8) (iotaInDim S128x100000 64 0),
    TRef.nullary (TRef.of (T := ⟨S128x100000, .i64⟩) main_call0_v9) (iotaInDim S128x100000 64 1),
    TRef.nullary (TRef.of (T := ⟨S_, .i64⟩) main_call0_c) (constantI S_ 64 100000#64),
    TRef.unary (TRef.of (T := ⟨S_, .i64⟩) main_call0_c) (TRef.of (T := ⟨S128x100000, .i64⟩) main_call0_v10) (broadcastInDim S128x100000 ![] bcast_S_S128x100000),
    TRef.binary (TRef.of (T := ⟨S128x100000, .i64⟩) main_call0_v10) (TRef.of (T := ⟨S128x100000, .i64⟩) main_call0_v8) (TRef.of (T := ⟨S128x100000, .i64⟩) main_call0_v11) muli,
    TRef.nullary (TRef.of (T := ⟨S_, .i64⟩) main_call0_c_0) (constantI S_ 64 1#64),
    TRef.unary (TRef.of (T := ⟨S_, .i64⟩) main_call0_c_0) (TRef.of (T := ⟨S128x100000, .i64⟩) main_call0_v12) (broadcastInDim S128x100000 ![] bcast_S_S128x100000),
    TRef.binary (TRef.of (T := ⟨S128x100000, .i64⟩) main_call0_v12) (TRef.of (T := ⟨S128x100000, .i64⟩) main_call0_v9) (TRef.of (T := ⟨S128x100000, .i64⟩) main_call0_v13) muli,
    TRef.binary (TRef.of (T := ⟨S128x100000, .i64⟩) main_call0_v11) (TRef.of (T := ⟨S128x100000, .i64⟩) main_call0_v13) (TRef.of (T := ⟨S128x100000, .i64⟩) main_call0_v14) addi,
    TRef.nullary (TRef.of (T := ⟨S_, .i64⟩) main_call0_c_1) (constantI S_ 64 32#64),
    TRef.unary (TRef.of (T := ⟨S_, .i64⟩) main_call0_c_1) (TRef.of (T := ⟨S128x100000, .i64⟩) main_call0_v15) (broadcastInDim S128x100000 ![] bcast_S_S128x100000),
    TRef.binary (TRef.of (T := ⟨S128x100000, .i64⟩) main_call0_v14) (TRef.of (T := ⟨S128x100000, .i64⟩) main_call0_v15) (TRef.of (T := ⟨S128x100000, .i64⟩) main_call0_v16) Host.shrui,
    TRef.unary (TRef.of (T := ⟨S128x100000, .i64⟩) main_call0_v14) (TRef.of (T := ⟨S128x100000, .i32⟩) main_call0_v17) (trunci 32 · natLt_32_64),
    TRef.unary (TRef.of (T := ⟨S128x100000, .i64⟩) main_call0_v16) (TRef.of (T := ⟨S128x100000, .i32⟩) main_call0_v18) (trunci 32 · natLt_32_64) ]

/-- The buffers they write, in order. -/
abbrev keyW : List (Ref sig .tc) :=
  [main_c, main_c_0, main_v0, main_v1, main_v2, main_c_1, main_v3, main_v4, main_v5, main_v6, main_cst, main_cst_2, main_call0_v0, main_call0_v1, main_call0_v2, main_call0_v3, main_call0_v4, main_call0_v5, main_call0_v6, main_call0_v7, main_call0_v8, main_call0_v9, main_call0_c, main_call0_v10, main_call0_v11, main_call0_c_0, main_call0_v12, main_call0_v13, main_call0_v14, main_call0_c_1, main_call0_v15, main_call0_v16, main_call0_v17, main_call0_v18]

theorem key_writes : (keyOps : List (HloOp τ sig (Elt F))).Forall fun op => op.writes ⊆ (keyW.map (Proc.devRef (τ := τ) .tc)).toFinset :=
  forall_writes_sub_of_map rfl

theorem key_sub : (keyOps : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩

theorem key_fresh : (keyOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer they do not write keeps its contents. -/
theorem key_keep (V : Valuation τ sig (Elt F)) (r : Ref sig .tc) (h : r ∉ keyW) :
    after keyOps V (Proc.devRef .tc r) = V (Proc.devRef .tc r) :=
  after_of_writes_sub keyOps V key_writes h

/-- The operations of the generator's start state. -/
abbrev startOps : List (HloOp τ sig (Elt F)) :=
  [ TRef.binary (TRef.of (T := ⟨S_, .i32⟩) main_call0_v5) (TRef.of (T := ⟨S_, .i32⟩) main_call0_v7) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v5) (TRef.of (T := ⟨S128x100000, .i32⟩) main_call0_call0_v2) (broadcastInDim S128x100000 ![] bcast_S_S128x100000),
    TRef.binary (TRef.of (T := ⟨S128x100000, .i32⟩) main_call0_v18) (TRef.of (T := ⟨S128x100000, .i32⟩) main_call0_call0_v2) (TRef.of (T := ⟨S128x100000, .i32⟩) main_call0_call0_v3) addi,
    TRef.unary (TRef.of (T := ⟨S_, .i32⟩) main_call0_v7) (TRef.of (T := ⟨S128x100000, .i32⟩) main_call0_call0_v4) (broadcastInDim S128x100000 ![] bcast_S_S128x100000),
    TRef.binary (TRef.of (T := ⟨S128x100000, .i32⟩) main_call0_v17) (TRef.of (T := ⟨S128x100000, .i32⟩) main_call0_call0_v4) (TRef.of (T := ⟨S128x100000, .i32⟩) main_call0_call0_v5) addi ]

/-- The buffers they write, in order. -/
abbrev startW : List (Ref sig .tc) :=
  [main_call0_call0_v0, main_call0_call0_c, main_call0_call0_v1, main_call0_call0_v2, main_call0_call0_v3, main_call0_call0_v4, main_call0_call0_v5]

theorem start_writes : (startOps : List (HloOp τ sig (Elt F))).Forall fun op => op.writes ⊆ (startW.map (Proc.devRef (τ := τ) .tc)).toFinset :=
  forall_writes_sub_of_map rfl

theorem start_sub : (startOps : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub ..⟩

theorem start_fresh : (startOps : List (HloOp τ sig (Elt F))).Forall fun op => op.fresh = ∅ :=
  ⟨rfl, rfl, rfl, rfl, rfl, rfl, rfl⟩

/-- A buffer they do not write keeps its contents. -/
theorem start_keep (V : Valuation τ sig (Elt F)) (r : Ref sig .tc) (h : r ∉ startW) :
    after startOps V (Proc.devRef .tc r) = V (Proc.devRef .tc r) :=
  after_of_writes_sub startOps V start_writes h

/-- The operations of the first four rounds and key addition. -/
abbrev oneOps : List (HloOp τ sig (Elt F)) :=
  [ TRef.binary (TRef.of (T := ⟨S128x100000, .i32⟩) main_call0_call0_v3) (TRef.of (T := ⟨S128x100000, .i32⟩) main_call0_call0_v5) (TRef.of (T := ⟨S128x100000, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S128x100000, .i32⟩) main_call0_call0_v7) (broadcastInDim S128x100000 ![] bcast_S_S128x100000),
    TRef.binary (TRef.of (T := ⟨S128x100000, .i32⟩) main_call0_call0_v5) (TRef.of (T := ⟨S128x100000, .i32⟩) main_call0_call0_v7) (TRef.of (T := ⟨S128x100000, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S128x100000, .i32⟩) main_call0_call0_v9) (broadcastInDim S128x100000 ![] bcast_S_S128x100000),
    TRef.binary (TRef.of (T := ⟨S128x100000, .i32⟩) main_call0_call0_v5) (TRef.of (T := ⟨S128x100000, .i32⟩) main_call0_call0_v9) (TRef.of (T := ⟨S128x100000, .i32⟩) main_call0_call0_v10) Host.shrui,
    TRef.binary (TRef.of (T := ⟨S128x100000, .i32⟩) main_call0_call0_v8) (TRef.of (T := ⟨S128x100000, .i32⟩) main_call0_call0_v10) (TRef.of (T := ⟨S128x100000, .i32⟩) main_call0_call0_v11) ori,
    TRef.binary (TRef.of (T := ⟨S128x100000, .i32⟩) main_call0_call0_v6) (TRef.of (T := ⟨S128x100000, .i32⟩) main_call0_call0_v11) (TRef.of (T := ⟨S128x100000, .i32⟩) main_call0_call0_v12) xori,
    TRef.binary (TRef.of (T := ⟨S128x100000, .i32⟩) main_call0_call0_v6) (TRef.of (T := ⟨S128x100000, .i32⟩) main_call0_call0_v12) (TRef.of (T := ⟨S128x100000, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S128x100000, .i32⟩) main_call0_call0_v14) (broadcastInDim S128x100000 ![] bcast_S_S128x100000),
    TRef.binary (TRef.of (T := ⟨S128x100000, .i32⟩) main_call0_call0_v12) (TRef.of (T := ⟨S128x100000, .i32⟩) main_call0_call0_v14) (TRef.of (T := ⟨S128x100000, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S128x100000, .i32⟩) main_call0_call0_v16) (broadcastInDim S128x100000 ![] bcast_S_S128x100000),
    TRef.binary (TRef.of (T := ⟨S128x100000, .i32⟩) main_call0_call0_v12) (TRef.of (T := ⟨S128x100000, .i32⟩) main_call0_call0_v16) (TRef.of (T := ⟨S128x100000, .i32⟩) main_call0_call0_v17) Host.shrui,
    TRef.binary (TRef.of (T := ⟨S128x100000, .i32⟩) main_call0_call0_v15) (TRef.of (T := ⟨S128x100000, .i32⟩) main_call0_call0_v17) (TRef.of (T := ⟨S128x100000, .i32⟩) main_call0_call0_v18) ori,
    TRef.binary (TRef.of (T := ⟨S128x100000, .i32⟩) main_call0_call0_v13) (TRef.of (T := ⟨S128x100000, .i32⟩) main_call0_call0_v18) (TRef.of (T := ⟨S128x100000, .i32⟩) main_call0_call0_v19) xori,
    TRef.binary (TRef.of (T := ⟨S128x100000, .i32⟩) main_call0_call0_v13) (TRef.of (T := ⟨S128x100000, .i32⟩) main_call0_call0_v19) (TRef.of (T := ⟨S128x100000, .i32⟩) main_call0_call0_v20) addi,
    TRef.nullary (TRef.of (T := ⟨S_, .i32⟩) main_call0_call0_c_4) (constantI S_ 32 26#32),
    TRef.unary (TRef.of (T := ⟨S_, .i32⟩) main_call0_call0_c_4) (TRef.of (T := ⟨S128x100000, .i32⟩) main_call0_call0_v21) (broadcastInDim S128x100000 ![] bcast_S_S128x100000),
    TRef.binary (TRef.of (T := ⟨S128x100000, .i32⟩) main_call0_call0_v19) (TRef.of (T := ⟨S128x100000, .i32⟩) main_call0_call0_v21) (TRef.of (T := ⟨S128x100000, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S128x100000, .i32⟩) main_call0_call0_v23) (broadcastInDim S128x100000 ![] bcast_S_S128x100000),
    TRef.binary (TRef.of (T := ⟨S128x100000, .i32⟩) main_call0_call0_v19) (TRef.of (T := ⟨S128x100000, .i32⟩) main_call0_call0_v23) (TRef.of (T := ⟨S128x100000, .i32⟩) main_call0_call0_v24) Host.shrui,
    TRef.binary (TRef.of (T := ⟨S128x100000, .i32⟩) main_call0_call0_v22) (TRef.of (T := ⟨S128x100000, .i32⟩) main_call0_call0_v24) (TRef.of (T := ⟨S128x100000, .i32⟩) main_call0_call0_v25) ori,
    TRef.binary (TRef.of (T := ⟨S128x100000, .i32⟩) main_call0_call0_v20) (TRef.of (T := ⟨S128x100000, .i32⟩) main_call0_call0_v25) (TRef.of (T := ⟨S128x100000, .i32⟩) main_call0_call0_v26) xori,
    TRef.binary (TRef.of (T := ⟨S128x100000, .i32⟩) main_call0_call0_v20) (TRef.of (T := ⟨S128x100000, .i32⟩) main_call0_call0_v26) (TRef.of (T := ⟨S128x100000, .i32⟩) main_call0_call0_v27) addi,
    TRef.nullary (TRef.of (T := ⟨S_, .i32⟩) main_call0_call0_c_6) (constantI S_ 32 6#32),
    TRef.unary (TRef.of (T := ⟨S_, .i32⟩) main_call0_call0_c_6) (TRef.of (T := ⟨S128x100000, .i32⟩) main_call0_call0_v28) (broadcastInDim S128x100000 ![] bcast_S_S128x100000),
    TRef.binary (TRef.of (T := ⟨S128x100000, .i32⟩) main_call0_call0_v26) (TRef.of (T := ⟨S128x100000, .i32⟩) main_call0_call0_v28) (TRef.of (T := ⟨S128x100000, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S128x100000, .i32⟩) main_call0_call0_v30) (broadcastInDim S128x100000 ![] bcast_S_S128x100000),
    TRef.binary (TRef.of (T := ⟨S128x100000, .i32⟩) main_call0_call0_v26) (TRef.of (T := ⟨S128x100000, .i32⟩) main_call0_call0_v30) (TRef.of (T := ⟨S128x100000, .i32⟩) main_call0_call0_v31) Host.shrui,
    TRef.binary (TRef.of (T := ⟨S128x100000, .i32⟩) main_call0_call0_v29) (TRef.of (T := ⟨S128x100000, .i32⟩) main_call0_call0_v31) (TRef.of (T := ⟨S128x100000, .i32⟩) main_call0_call0_v32) ori,
    TRef.binary (TRef.of (T := ⟨S128x100000, .i32⟩) main_call0_call0_v27) (TRef.of (T := ⟨S128x100000, .i32⟩) main_call0_call0_v32) (TRef.of (T := ⟨S128x100000, .i32⟩) main_call0_call0_v33) xori,
    TRef.unary (TRef.of (T := ⟨S_, .i32⟩) main_call0_v7) (TRef.of (T := ⟨S128x100000, .i32⟩) main_call0_call0_v34) (broadcastInDim S128x100000 ![] bcast_S_S128x100000),
    TRef.binary (TRef.of (T := ⟨S128x100000, .i32⟩) main_call0_call0_v27) (TRef.of (T := ⟨S128x100000, .i32⟩) main_call0_call0_v34) (TRef.of (T := ⟨S128x100000, .i32⟩) main_call0_call0_v35) addi,
    TRef.unary (TRef.of (T := ⟨S_, .i32⟩) main_call0_call0_v1) (TRef.of (T := ⟨S128x100000, .i32⟩) main_call0_call0_v36) (broadcastInDim S128x100000 ![] bcast_S_S128x100000),
    TRef.binary (TRef.of (T := ⟨S128x100000, .i32⟩) main_call0_call0_v33) (TRef.of (T := ⟨S128x100000, .i32⟩) main_call0_call0_v36) (TRef.of (T := ⟨S128x100000, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S128x100000, .i32⟩) main_call0_call0_v38) (broadcastInDim S128x100000 ![] bcast_S_S128x100000),
    TRef.binary (TRef.of (T := ⟨S128x100000, .i32⟩) main_call0_call0_v37) (TRef.of (T := ⟨S128x100000, .i32⟩) main_call0_call0_v38) (TRef.of (T := ⟨S128x100000, .i32⟩) main_call0_call0_v39) addi ]

/-- The buffers they write, in order. -/
abbrev oneW : List (Ref sig .tc) :=
  [main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39]

theorem one_writes : (oneOps : List (HloOp τ sig (Elt F))).Forall fun op => op.writes ⊆ (oneW.map (Proc.devRef (τ := τ) .tc)).toFinset :=
  forall_writes_sub_of_map rfl

theorem one_sub : (oneOps : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

theorem one_fresh : (oneOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer they do not write keeps its contents. -/
theorem one_keep (V : Valuation τ sig (Elt F)) (r : Ref sig .tc) (h : r ∉ oneW) :
    after oneOps V (Proc.devRef .tc r) = V (Proc.devRef .tc r) :=
  after_of_writes_sub oneOps V one_writes h

/-- The operations of the second four rounds and key addition. -/
abbrev twoOps : List (HloOp τ sig (Elt F)) :=
  [ TRef.binary (TRef.of (T := ⟨S128x100000, .i32⟩) main_call0_call0_v35) (TRef.of (T := ⟨S128x100000, .i32⟩) main_call0_call0_v39) (TRef.of (T := ⟨S128x100000, .i32⟩) main_call0_call0_v40) addi,
    TRef.nullary (TRef.of (T := ⟨S_, .i32⟩) main_call0_call0_c_9) (constantI S_ 32 17#32),
    TRef.unary (TRef.of (T := ⟨S_, .i32⟩) main_call0_call0_c_9) (TRef.of (T := ⟨S128x100000, .i32⟩) main_call0_call0_v41) (broadcastInDim S128x100000 ![] bcast_S_S128x100000),
    TRef.binary (TRef.of (T := ⟨S128x100000, .i32⟩) main_call0_call0_v39) (TRef.of (T := ⟨S128x100000, .i32⟩) main_call0_call0_v41) (TRef.of (T := ⟨S128x100000, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S128x100000, .i32⟩) main_call0_call0_v43) (broadcastInDim S128x100000 ![] bcast_S_S128x100000),
    TRef.binary (TRef.of (T := ⟨S128x100000, .i32⟩) main_call0_call0_v39) (TRef.of (T := ⟨S128x100000, .i32⟩) main_call0_call0_v43) (TRef.of (T := ⟨S128x100000, .i32⟩) main_call0_call0_v44) Host.shrui,
    TRef.binary (TRef.of (T := ⟨S128x100000, .i32⟩) main_call0_call0_v42) (TRef.of (T := ⟨S128x100000, .i32⟩) main_call0_call0_v44) (TRef.of (T := ⟨S128x100000, .i32⟩) main_call0_call0_v45) ori,
    TRef.binary (TRef.of (T := ⟨S128x100000, .i32⟩) main_call0_call0_v40) (TRef.of (T := ⟨S128x100000, .i32⟩) main_call0_call0_v45) (TRef.of (T := ⟨S128x100000, .i32⟩) main_call0_call0_v46) xori,
    TRef.binary (TRef.of (T := ⟨S128x100000, .i32⟩) main_call0_call0_v40) (TRef.of (T := ⟨S128x100000, .i32⟩) main_call0_call0_v46) (TRef.of (T := ⟨S128x100000, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S128x100000, .i32⟩) main_call0_call0_v48) (broadcastInDim S128x100000 ![] bcast_S_S128x100000),
    TRef.binary (TRef.of (T := ⟨S128x100000, .i32⟩) main_call0_call0_v46) (TRef.of (T := ⟨S128x100000, .i32⟩) main_call0_call0_v48) (TRef.of (T := ⟨S128x100000, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S128x100000, .i32⟩) main_call0_call0_v50) (broadcastInDim S128x100000 ![] bcast_S_S128x100000),
    TRef.binary (TRef.of (T := ⟨S128x100000, .i32⟩) main_call0_call0_v46) (TRef.of (T := ⟨S128x100000, .i32⟩) main_call0_call0_v50) (TRef.of (T := ⟨S128x100000, .i32⟩) main_call0_call0_v51) Host.shrui,
    TRef.binary (TRef.of (T := ⟨S128x100000, .i32⟩) main_call0_call0_v49) (TRef.of (T := ⟨S128x100000, .i32⟩) main_call0_call0_v51) (TRef.of (T := ⟨S128x100000, .i32⟩) main_call0_call0_v52) ori,
    TRef.binary (TRef.of (T := ⟨S128x100000, .i32⟩) main_call0_call0_v47) (TRef.of (T := ⟨S128x100000, .i32⟩) main_call0_call0_v52) (TRef.of (T := ⟨S128x100000, .i32⟩) main_call0_call0_v53) xori,
    TRef.binary (TRef.of (T := ⟨S128x100000, .i32⟩) main_call0_call0_v47) (TRef.of (T := ⟨S128x100000, .i32⟩) main_call0_call0_v53) (TRef.of (T := ⟨S128x100000, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S128x100000, .i32⟩) main_call0_call0_v55) (broadcastInDim S128x100000 ![] bcast_S_S128x100000),
    TRef.binary (TRef.of (T := ⟨S128x100000, .i32⟩) main_call0_call0_v53) (TRef.of (T := ⟨S128x100000, .i32⟩) main_call0_call0_v55) (TRef.of (T := ⟨S128x100000, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S128x100000, .i32⟩) main_call0_call0_v57) (broadcastInDim S128x100000 ![] bcast_S_S128x100000),
    TRef.binary (TRef.of (T := ⟨S128x100000, .i32⟩) main_call0_call0_v53) (TRef.of (T := ⟨S128x100000, .i32⟩) main_call0_call0_v57) (TRef.of (T := ⟨S128x100000, .i32⟩) main_call0_call0_v58) Host.shrui,
    TRef.binary (TRef.of (T := ⟨S128x100000, .i32⟩) main_call0_call0_v56) (TRef.of (T := ⟨S128x100000, .i32⟩) main_call0_call0_v58) (TRef.of (T := ⟨S128x100000, .i32⟩) main_call0_call0_v59) ori,
    TRef.binary (TRef.of (T := ⟨S128x100000, .i32⟩) main_call0_call0_v54) (TRef.of (T := ⟨S128x100000, .i32⟩) main_call0_call0_v59) (TRef.of (T := ⟨S128x100000, .i32⟩) main_call0_call0_v60) xori,
    TRef.binary (TRef.of (T := ⟨S128x100000, .i32⟩) main_call0_call0_v54) (TRef.of (T := ⟨S128x100000, .i32⟩) main_call0_call0_v60) (TRef.of (T := ⟨S128x100000, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S128x100000, .i32⟩) main_call0_call0_v62) (broadcastInDim S128x100000 ![] bcast_S_S128x100000),
    TRef.binary (TRef.of (T := ⟨S128x100000, .i32⟩) main_call0_call0_v60) (TRef.of (T := ⟨S128x100000, .i32⟩) main_call0_call0_v62) (TRef.of (T := ⟨S128x100000, .i32⟩) main_call0_call0_v63) Host.shli,
    TRef.nullary (TRef.of (T := ⟨S_, .i32⟩) main_call0_call0_c_16) (constantI S_ 32 8#32),
    TRef.unary (TRef.of (T := ⟨S_, .i32⟩) main_call0_call0_c_16) (TRef.of (T := ⟨S128x100000, .i32⟩) main_call0_call0_v64) (broadcastInDim S128x100000 ![] bcast_S_S128x100000),
    TRef.binary (TRef.of (T := ⟨S128x100000, .i32⟩) main_call0_call0_v60) (TRef.of (T := ⟨S128x100000, .i32⟩) main_call0_call0_v64) (TRef.of (T := ⟨S128x100000, .i32⟩) main_call0_call0_v65) Host.shrui,
    TRef.binary (TRef.of (T := ⟨S128x100000, .i32⟩) main_call0_call0_v63) (TRef.of (T := ⟨S128x100000, .i32⟩) main_call0_call0_v65) (TRef.of (T := ⟨S128x100000, .i32⟩) main_call0_call0_v66) ori,
    TRef.binary (TRef.of (T := ⟨S128x100000, .i32⟩) main_call0_call0_v61) (TRef.of (T := ⟨S128x100000, .i32⟩) main_call0_call0_v66) (TRef.of (T := ⟨S128x100000, .i32⟩) main_call0_call0_v67) xori,
    TRef.unary (TRef.of (T := ⟨S_, .i32⟩) main_call0_call0_v1) (TRef.of (T := ⟨S128x100000, .i32⟩) main_call0_call0_v68) (broadcastInDim S128x100000 ![] bcast_S_S128x100000),
    TRef.binary (TRef.of (T := ⟨S128x100000, .i32⟩) main_call0_call0_v61) (TRef.of (T := ⟨S128x100000, .i32⟩) main_call0_call0_v68) (TRef.of (T := ⟨S128x100000, .i32⟩) main_call0_call0_v69) addi,
    TRef.unary (TRef.of (T := ⟨S_, .i32⟩) main_call0_v5) (TRef.of (T := ⟨S128x100000, .i32⟩) main_call0_call0_v70) (broadcastInDim S128x100000 ![] bcast_S_S128x100000),
    TRef.binary (TRef.of (T := ⟨S128x100000, .i32⟩) main_call0_call0_v67) (TRef.of (T := ⟨S128x100000, .i32⟩) main_call0_call0_v70) (TRef.of (T := ⟨S128x100000, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S128x100000, .i32⟩) main_call0_call0_v72) (broadcastInDim S128x100000 ![] bcast_S_S128x100000),
    TRef.binary (TRef.of (T := ⟨S128x100000, .i32⟩) main_call0_call0_v71) (TRef.of (T := ⟨S128x100000, .i32⟩) main_call0_call0_v72) (TRef.of (T := ⟨S128x100000, .i32⟩) main_call0_call0_v73) addi ]

/-- The buffers they write, in order. -/
abbrev twoW : List (Ref sig .tc) :=
  [main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73]

theorem two_writes : (twoOps : List (HloOp τ sig (Elt F))).Forall fun op => op.writes ⊆ (twoW.map (Proc.devRef (τ := τ) .tc)).toFinset :=
  forall_writes_sub_of_map rfl

theorem two_sub : (twoOps : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

theorem two_fresh : (twoOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer they do not write keeps its contents. -/
theorem two_keep (V : Valuation τ sig (Elt F)) (r : Ref sig .tc) (h : r ∉ twoW) :
    after twoOps V (Proc.devRef .tc r) = V (Proc.devRef .tc r) :=
  after_of_writes_sub twoOps V two_writes h

/-- The operations of the third four rounds and key addition. -/
abbrev threeOps : List (HloOp τ sig (Elt F)) :=
  [ TRef.binary (TRef.of (T := ⟨S128x100000, .i32⟩) main_call0_call0_v69) (TRef.of (T := ⟨S128x100000, .i32⟩) main_call0_call0_v73) (TRef.of (T := ⟨S128x100000, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S128x100000, .i32⟩) main_call0_call0_v75) (broadcastInDim S128x100000 ![] bcast_S_S128x100000),
    TRef.binary (TRef.of (T := ⟨S128x100000, .i32⟩) main_call0_call0_v73) (TRef.of (T := ⟨S128x100000, .i32⟩) main_call0_call0_v75) (TRef.of (T := ⟨S128x100000, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S128x100000, .i32⟩) main_call0_call0_v77) (broadcastInDim S128x100000 ![] bcast_S_S128x100000),
    TRef.binary (TRef.of (T := ⟨S128x100000, .i32⟩) main_call0_call0_v73) (TRef.of (T := ⟨S128x100000, .i32⟩) main_call0_call0_v77) (TRef.of (T := ⟨S128x100000, .i32⟩) main_call0_call0_v78) Host.shrui,
    TRef.binary (TRef.of (T := ⟨S128x100000, .i32⟩) main_call0_call0_v76) (TRef.of (T := ⟨S128x100000, .i32⟩) main_call0_call0_v78) (TRef.of (T := ⟨S128x100000, .i32⟩) main_call0_call0_v79) ori,
    TRef.binary (TRef.of (T := ⟨S128x100000, .i32⟩) main_call0_call0_v74) (TRef.of (T := ⟨S128x100000, .i32⟩) main_call0_call0_v79) (TRef.of (T := ⟨S128x100000, .i32⟩) main_call0_call0_v80) xori,
    TRef.binary (TRef.of (T := ⟨S128x100000, .i32⟩) main_call0_call0_v74) (TRef.of (T := ⟨S128x100000, .i32⟩) main_call0_call0_v80) (TRef.of (T := ⟨S128x100000, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S128x100000, .i32⟩) main_call0_call0_v82) (broadcastInDim S128x100000 ![] bcast_S_S128x100000),
    TRef.binary (TRef.of (T := ⟨S128x100000, .i32⟩) main_call0_call0_v80) (TRef.of (T := ⟨S128x100000, .i32⟩) main_call0_call0_v82) (TRef.of (T := ⟨S128x100000, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S128x100000, .i32⟩) main_call0_call0_v84) (broadcastInDim S128x100000 ![] bcast_S_S128x100000),
    TRef.binary (TRef.of (T := ⟨S128x100000, .i32⟩) main_call0_call0_v80) (TRef.of (T := ⟨S128x100000, .i32⟩) main_call0_call0_v84) (TRef.of (T := ⟨S128x100000, .i32⟩) main_call0_call0_v85) Host.shrui,
    TRef.binary (TRef.of (T := ⟨S128x100000, .i32⟩) main_call0_call0_v83) (TRef.of (T := ⟨S128x100000, .i32⟩) main_call0_call0_v85) (TRef.of (T := ⟨S128x100000, .i32⟩) main_call0_call0_v86) ori,
    TRef.binary (TRef.of (T := ⟨S128x100000, .i32⟩) main_call0_call0_v81) (TRef.of (T := ⟨S128x100000, .i32⟩) main_call0_call0_v86) (TRef.of (T := ⟨S128x100000, .i32⟩) main_call0_call0_v87) xori,
    TRef.binary (TRef.of (T := ⟨S128x100000, .i32⟩) main_call0_call0_v81) (TRef.of (T := ⟨S128x100000, .i32⟩) main_call0_call0_v87) (TRef.of (T := ⟨S128x100000, .i32⟩) main_call0_call0_v88) addi,
    TRef.nullary (TRef.of (T := ⟨S_, .i32⟩) main_call0_call0_c_22) (constantI S_ 32 26#32),
    TRef.unary (TRef.of (T := ⟨S_, .i32⟩) main_call0_call0_c_22) (TRef.of (T := ⟨S128x100000, .i32⟩) main_call0_call0_v89) (broadcastInDim S128x100000 ![] bcast_S_S128x100000),
    TRef.binary (TRef.of (T := ⟨S128x100000, .i32⟩) main_call0_call0_v87) (TRef.of (T := ⟨S128x100000, .i32⟩) main_call0_call0_v89) (TRef.of (T := ⟨S128x100000, .i32⟩) main_call0_call0_v90) Host.shli,
    TRef.nullary (TRef.of (T := ⟨S_, .i32⟩) main_call0_call0_c_23) (constantI S_ 32 6#32),
    TRef.unary (TRef.of (T := ⟨S_, .i32⟩) main_call0_call0_c_23) (TRef.of (T := ⟨S128x100000, .i32⟩) main_call0_call0_v91) (broadcastInDim S128x100000 ![] bcast_S_S128x100000),
    TRef.binary (TRef.of (T := ⟨S128x100000, .i32⟩) main_call0_call0_v87) (TRef.of (T := ⟨S128x100000, .i32⟩) main_call0_call0_v91) (TRef.of (T := ⟨S128x100000, .i32⟩) main_call0_call0_v92) Host.shrui,
    TRef.binary (TRef.of (T := ⟨S128x100000, .i32⟩) main_call0_call0_v90) (TRef.of (T := ⟨S128x100000, .i32⟩) main_call0_call0_v92) (TRef.of (T := ⟨S128x100000, .i32⟩) main_call0_call0_v93) ori,
    TRef.binary (TRef.of (T := ⟨S128x100000, .i32⟩) main_call0_call0_v88) (TRef.of (T := ⟨S128x100000, .i32⟩) main_call0_call0_v93) (TRef.of (T := ⟨S128x100000, .i32⟩) main_call0_call0_v94) xori,
    TRef.binary (TRef.of (T := ⟨S128x100000, .i32⟩) main_call0_call0_v88) (TRef.of (T := ⟨S128x100000, .i32⟩) main_call0_call0_v94) (TRef.of (T := ⟨S128x100000, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S128x100000, .i32⟩) main_call0_call0_v96) (broadcastInDim S128x100000 ![] bcast_S_S128x100000),
    TRef.binary (TRef.of (T := ⟨S128x100000, .i32⟩) main_call0_call0_v94) (TRef.of (T := ⟨S128x100000, .i32⟩) main_call0_call0_v96) (TRef.of (T := ⟨S128x100000, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S128x100000, .i32⟩) main_call0_call0_v98) (broadcastInDim S128x100000 ![] bcast_S_S128x100000),
    TRef.binary (TRef.of (T := ⟨S128x100000, .i32⟩) main_call0_call0_v94) (TRef.of (T := ⟨S128x100000, .i32⟩) main_call0_call0_v98) (TRef.of (T := ⟨S128x100000, .i32⟩) main_call0_call0_v99) Host.shrui,
    TRef.binary (TRef.of (T := ⟨S128x100000, .i32⟩) main_call0_call0_v97) (TRef.of (T := ⟨S128x100000, .i32⟩) main_call0_call0_v99) (TRef.of (T := ⟨S128x100000, .i32⟩) main_call0_call0_v100) ori,
    TRef.binary (TRef.of (T := ⟨S128x100000, .i32⟩) main_call0_call0_v95) (TRef.of (T := ⟨S128x100000, .i32⟩) main_call0_call0_v100) (TRef.of (T := ⟨S128x100000, .i32⟩) main_call0_call0_v101) xori,
    TRef.unary (TRef.of (T := ⟨S_, .i32⟩) main_call0_v5) (TRef.of (T := ⟨S128x100000, .i32⟩) main_call0_call0_v102) (broadcastInDim S128x100000 ![] bcast_S_S128x100000),
    TRef.binary (TRef.of (T := ⟨S128x100000, .i32⟩) main_call0_call0_v95) (TRef.of (T := ⟨S128x100000, .i32⟩) main_call0_call0_v102) (TRef.of (T := ⟨S128x100000, .i32⟩) main_call0_call0_v103) addi,
    TRef.unary (TRef.of (T := ⟨S_, .i32⟩) main_call0_v7) (TRef.of (T := ⟨S128x100000, .i32⟩) main_call0_call0_v104) (broadcastInDim S128x100000 ![] bcast_S_S128x100000),
    TRef.binary (TRef.of (T := ⟨S128x100000, .i32⟩) main_call0_call0_v101) (TRef.of (T := ⟨S128x100000, .i32⟩) main_call0_call0_v104) (TRef.of (T := ⟨S128x100000, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S128x100000, .i32⟩) main_call0_call0_v106) (broadcastInDim S128x100000 ![] bcast_S_S128x100000),
    TRef.binary (TRef.of (T := ⟨S128x100000, .i32⟩) main_call0_call0_v105) (TRef.of (T := ⟨S128x100000, .i32⟩) main_call0_call0_v106) (TRef.of (T := ⟨S128x100000, .i32⟩) main_call0_call0_v107) addi ]

/-- The buffers they write, in order. -/
abbrev threeW : List (Ref sig .tc) :=
  [main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107]

theorem three_writes : (threeOps : List (HloOp τ sig (Elt F))).Forall fun op => op.writes ⊆ (threeW.map (Proc.devRef (τ := τ) .tc)).toFinset :=
  forall_writes_sub_of_map rfl

theorem three_sub : (threeOps : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

theorem three_fresh : (threeOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer they do not write keeps its contents. -/
theorem three_keep (V : Valuation τ sig (Elt F)) (r : Ref sig .tc) (h : r ∉ threeW) :
    after threeOps V (Proc.devRef .tc r) = V (Proc.devRef .tc r) :=
  after_of_writes_sub threeOps V three_writes h

/-- The operations of the fourth four rounds and key addition. -/
abbrev fourOps : List (HloOp τ sig (Elt F)) :=
  [ TRef.binary (TRef.of (T := ⟨S128x100000, .i32⟩) main_call0_call0_v103) (TRef.of (T := ⟨S128x100000, .i32⟩) main_call0_call0_v107) (TRef.of (T := ⟨S128x100000, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S128x100000, .i32⟩) main_call0_call0_v109) (broadcastInDim S128x100000 ![] bcast_S_S128x100000),
    TRef.binary (TRef.of (T := ⟨S128x100000, .i32⟩) main_call0_call0_v107) (TRef.of (T := ⟨S128x100000, .i32⟩) main_call0_call0_v109) (TRef.of (T := ⟨S128x100000, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S128x100000, .i32⟩) main_call0_call0_v111) (broadcastInDim S128x100000 ![] bcast_S_S128x100000),
    TRef.binary (TRef.of (T := ⟨S128x100000, .i32⟩) main_call0_call0_v107) (TRef.of (T := ⟨S128x100000, .i32⟩) main_call0_call0_v111) (TRef.of (T := ⟨S128x100000, .i32⟩) main_call0_call0_v112) Host.shrui,
    TRef.binary (TRef.of (T := ⟨S128x100000, .i32⟩) main_call0_call0_v110) (TRef.of (T := ⟨S128x100000, .i32⟩) main_call0_call0_v112) (TRef.of (T := ⟨S128x100000, .i32⟩) main_call0_call0_v113) ori,
    TRef.binary (TRef.of (T := ⟨S128x100000, .i32⟩) main_call0_call0_v108) (TRef.of (T := ⟨S128x100000, .i32⟩) main_call0_call0_v113) (TRef.of (T := ⟨S128x100000, .i32⟩) main_call0_call0_v114) xori,
    TRef.binary (TRef.of (T := ⟨S128x100000, .i32⟩) main_call0_call0_v108) (TRef.of (T := ⟨S128x100000, .i32⟩) main_call0_call0_v114) (TRef.of (T := ⟨S128x100000, .i32⟩) main_call0_call0_v115) addi,
    TRef.nullary (TRef.of (T := ⟨S_, .i32⟩) main_call0_call0_c_29) (constantI S_ 32 29#32),
    TRef.unary (TRef.of (T := ⟨S_, .i32⟩) main_call0_call0_c_29) (TRef.of (T := ⟨S128x100000, .i32⟩) main_call0_call0_v116) (broadcastInDim S128x100000 ![] bcast_S_S128x100000),
    TRef.binary (TRef.of (T := ⟨S128x100000, .i32⟩) main_call0_call0_v114) (TRef.of (T := ⟨S128x100000, .i32⟩) main_call0_call0_v116) (TRef.of (T := ⟨S128x100000, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S128x100000, .i32⟩) main_call0_call0_v118) (broadcastInDim S128x100000 ![] bcast_S_S128x100000),
    TRef.binary (TRef.of (T := ⟨S128x100000, .i32⟩) main_call0_call0_v114) (TRef.of (T := ⟨S128x100000, .i32⟩) main_call0_call0_v118) (TRef.of (T := ⟨S128x100000, .i32⟩) main_call0_call0_v119) Host.shrui,
    TRef.binary (TRef.of (T := ⟨S128x100000, .i32⟩) main_call0_call0_v117) (TRef.of (T := ⟨S128x100000, .i32⟩) main_call0_call0_v119) (TRef.of (T := ⟨S128x100000, .i32⟩) main_call0_call0_v120) ori,
    TRef.binary (TRef.of (T := ⟨S128x100000, .i32⟩) main_call0_call0_v115) (TRef.of (T := ⟨S128x100000, .i32⟩) main_call0_call0_v120) (TRef.of (T := ⟨S128x100000, .i32⟩) main_call0_call0_v121) xori,
    TRef.binary (TRef.of (T := ⟨S128x100000, .i32⟩) main_call0_call0_v115) (TRef.of (T := ⟨S128x100000, .i32⟩) main_call0_call0_v121) (TRef.of (T := ⟨S128x100000, .i32⟩) main_call0_call0_v122) addi,
    TRef.nullary (TRef.of (T := ⟨S_, .i32⟩) main_call0_call0_c_31) (constantI S_ 32 16#32),
    TRef.unary (TRef.of (T := ⟨S_, .i32⟩) main_call0_call0_c_31) (TRef.of (T := ⟨S128x100000, .i32⟩) main_call0_call0_v123) (broadcastInDim S128x100000 ![] bcast_S_S128x100000),
    TRef.binary (TRef.of (T := ⟨S128x100000, .i32⟩) main_call0_call0_v121) (TRef.of (T := ⟨S128x100000, .i32⟩) main_call0_call0_v123) (TRef.of (T := ⟨S128x100000, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S128x100000, .i32⟩) main_call0_call0_v125) (broadcastInDim S128x100000 ![] bcast_S_S128x100000),
    TRef.binary (TRef.of (T := ⟨S128x100000, .i32⟩) main_call0_call0_v121) (TRef.of (T := ⟨S128x100000, .i32⟩) main_call0_call0_v125) (TRef.of (T := ⟨S128x100000, .i32⟩) main_call0_call0_v126) Host.shrui,
    TRef.binary (TRef.of (T := ⟨S128x100000, .i32⟩) main_call0_call0_v124) (TRef.of (T := ⟨S128x100000, .i32⟩) main_call0_call0_v126) (TRef.of (T := ⟨S128x100000, .i32⟩) main_call0_call0_v127) ori,
    TRef.binary (TRef.of (T := ⟨S128x100000, .i32⟩) main_call0_call0_v122) (TRef.of (T := ⟨S128x100000, .i32⟩) main_call0_call0_v127) (TRef.of (T := ⟨S128x100000, .i32⟩) main_call0_call0_v128) xori,
    TRef.binary (TRef.of (T := ⟨S128x100000, .i32⟩) main_call0_call0_v122) (TRef.of (T := ⟨S128x100000, .i32⟩) main_call0_call0_v128) (TRef.of (T := ⟨S128x100000, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S128x100000, .i32⟩) main_call0_call0_v130) (broadcastInDim S128x100000 ![] bcast_S_S128x100000),
    TRef.binary (TRef.of (T := ⟨S128x100000, .i32⟩) main_call0_call0_v128) (TRef.of (T := ⟨S128x100000, .i32⟩) main_call0_call0_v130) (TRef.of (T := ⟨S128x100000, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S128x100000, .i32⟩) main_call0_call0_v132) (broadcastInDim S128x100000 ![] bcast_S_S128x100000),
    TRef.binary (TRef.of (T := ⟨S128x100000, .i32⟩) main_call0_call0_v128) (TRef.of (T := ⟨S128x100000, .i32⟩) main_call0_call0_v132) (TRef.of (T := ⟨S128x100000, .i32⟩) main_call0_call0_v133) Host.shrui,
    TRef.binary (TRef.of (T := ⟨S128x100000, .i32⟩) main_call0_call0_v131) (TRef.of (T := ⟨S128x100000, .i32⟩) main_call0_call0_v133) (TRef.of (T := ⟨S128x100000, .i32⟩) main_call0_call0_v134) ori,
    TRef.binary (TRef.of (T := ⟨S128x100000, .i32⟩) main_call0_call0_v129) (TRef.of (T := ⟨S128x100000, .i32⟩) main_call0_call0_v134) (TRef.of (T := ⟨S128x100000, .i32⟩) main_call0_call0_v135) xori,
    TRef.unary (TRef.of (T := ⟨S_, .i32⟩) main_call0_v7) (TRef.of (T := ⟨S128x100000, .i32⟩) main_call0_call0_v136) (broadcastInDim S128x100000 ![] bcast_S_S128x100000),
    TRef.binary (TRef.of (T := ⟨S128x100000, .i32⟩) main_call0_call0_v129) (TRef.of (T := ⟨S128x100000, .i32⟩) main_call0_call0_v136) (TRef.of (T := ⟨S128x100000, .i32⟩) main_call0_call0_v137) addi,
    TRef.unary (TRef.of (T := ⟨S_, .i32⟩) main_call0_call0_v1) (TRef.of (T := ⟨S128x100000, .i32⟩) main_call0_call0_v138) (broadcastInDim S128x100000 ![] bcast_S_S128x100000),
    TRef.binary (TRef.of (T := ⟨S128x100000, .i32⟩) main_call0_call0_v135) (TRef.of (T := ⟨S128x100000, .i32⟩) main_call0_call0_v138) (TRef.of (T := ⟨S128x100000, .i32⟩) main_call0_call0_v139) addi,
    TRef.nullary (TRef.of (T := ⟨S_, .i32⟩) main_call0_call0_c_35) (constantI S_ 32 4#32),
    TRef.unary (TRef.of (T := ⟨S_, .i32⟩) main_call0_call0_c_35) (TRef.of (T := ⟨S128x100000, .i32⟩) main_call0_call0_v140) (broadcastInDim S128x100000 ![] bcast_S_S128x100000),
    TRef.binary (TRef.of (T := ⟨S128x100000, .i32⟩) main_call0_call0_v139) (TRef.of (T := ⟨S128x100000, .i32⟩) main_call0_call0_v140) (TRef.of (T := ⟨S128x100000, .i32⟩) main_call0_call0_v141) addi ]

/-- The buffers they write, in order. -/
abbrev fourW : List (Ref sig .tc) :=
  [main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141]

theorem four_writes : (fourOps : List (HloOp τ sig (Elt F))).Forall fun op => op.writes ⊆ (fourW.map (Proc.devRef (τ := τ) .tc)).toFinset :=
  forall_writes_sub_of_map rfl

theorem four_sub : (fourOps : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

theorem four_fresh : (fourOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer they do not write keeps its contents. -/
theorem four_keep (V : Valuation τ sig (Elt F)) (r : Ref sig .tc) (h : r ∉ fourW) :
    after fourOps V (Proc.devRef .tc r) = V (Proc.devRef .tc r) :=
  after_of_writes_sub fourOps V four_writes h

/-- The operations of the last four rounds and key addition. -/
abbrev fiveOps : List (HloOp τ sig (Elt F)) :=
  [ TRef.binary (TRef.of (T := ⟨S128x100000, .i32⟩) main_call0_call0_v137) (TRef.of (T := ⟨S128x100000, .i32⟩) main_call0_call0_v141) (TRef.of (T := ⟨S128x100000, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S128x100000, .i32⟩) main_call0_call0_v143) (broadcastInDim S128x100000 ![] bcast_S_S128x100000),
    TRef.binary (TRef.of (T := ⟨S128x100000, .i32⟩) main_call0_call0_v141) (TRef.of (T := ⟨S128x100000, .i32⟩) main_call0_call0_v143) (TRef.of (T := ⟨S128x100000, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S128x100000, .i32⟩) main_call0_call0_v145) (broadcastInDim S128x100000 ![] bcast_S_S128x100000),
    TRef.binary (TRef.of (T := ⟨S128x100000, .i32⟩) main_call0_call0_v141) (TRef.of (T := ⟨S128x100000, .i32⟩) main_call0_call0_v145) (TRef.of (T := ⟨S128x100000, .i32⟩) main_call0_call0_v146) Host.shrui,
    TRef.binary (TRef.of (T := ⟨S128x100000, .i32⟩) main_call0_call0_v144) (TRef.of (T := ⟨S128x100000, .i32⟩) main_call0_call0_v146) (TRef.of (T := ⟨S128x100000, .i32⟩) main_call0_call0_v147) ori,
    TRef.binary (TRef.of (T := ⟨S128x100000, .i32⟩) main_call0_call0_v142) (TRef.of (T := ⟨S128x100000, .i32⟩) main_call0_call0_v147) (TRef.of (T := ⟨S128x100000, .i32⟩) main_call0_call0_v148) xori,
    TRef.binary (TRef.of (T := ⟨S128x100000, .i32⟩) main_call0_call0_v142) (TRef.of (T := ⟨S128x100000, .i32⟩) main_call0_call0_v148) (TRef.of (T := ⟨S128x100000, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S128x100000, .i32⟩) main_call0_call0_v150) (broadcastInDim S128x100000 ![] bcast_S_S128x100000),
    TRef.binary (TRef.of (T := ⟨S128x100000, .i32⟩) main_call0_call0_v148) (TRef.of (T := ⟨S128x100000, .i32⟩) main_call0_call0_v150) (TRef.of (T := ⟨S128x100000, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S128x100000, .i32⟩) main_call0_call0_v152) (broadcastInDim S128x100000 ![] bcast_S_S128x100000),
    TRef.binary (TRef.of (T := ⟨S128x100000, .i32⟩) main_call0_call0_v148) (TRef.of (T := ⟨S128x100000, .i32⟩) main_call0_call0_v152) (TRef.of (T := ⟨S128x100000, .i32⟩) main_call0_call0_v153) Host.shrui,
    TRef.binary (TRef.of (T := ⟨S128x100000, .i32⟩) main_call0_call0_v151) (TRef.of (T := ⟨S128x100000, .i32⟩) main_call0_call0_v153) (TRef.of (T := ⟨S128x100000, .i32⟩) main_call0_call0_v154) ori,
    TRef.binary (TRef.of (T := ⟨S128x100000, .i32⟩) main_call0_call0_v149) (TRef.of (T := ⟨S128x100000, .i32⟩) main_call0_call0_v154) (TRef.of (T := ⟨S128x100000, .i32⟩) main_call0_call0_v155) xori,
    TRef.binary (TRef.of (T := ⟨S128x100000, .i32⟩) main_call0_call0_v149) (TRef.of (T := ⟨S128x100000, .i32⟩) main_call0_call0_v155) (TRef.of (T := ⟨S128x100000, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S128x100000, .i32⟩) main_call0_call0_v157) (broadcastInDim S128x100000 ![] bcast_S_S128x100000),
    TRef.binary (TRef.of (T := ⟨S128x100000, .i32⟩) main_call0_call0_v155) (TRef.of (T := ⟨S128x100000, .i32⟩) main_call0_call0_v157) (TRef.of (T := ⟨S128x100000, .i32⟩) main_call0_call0_v158) Host.shli,
    TRef.nullary (TRef.of (T := ⟨S_, .i32⟩) main_call0_call0_c_41) (constantI S_ 32 6#32),
    TRef.unary (TRef.of (T := ⟨S_, .i32⟩) main_call0_call0_c_41) (TRef.of (T := ⟨S128x100000, .i32⟩) main_call0_call0_v159) (broadcastInDim S128x100000 ![] bcast_S_S128x100000),
    TRef.binary (TRef.of (T := ⟨S128x100000, .i32⟩) main_call0_call0_v155) (TRef.of (T := ⟨S128x100000, .i32⟩) main_call0_call0_v159) (TRef.of (T := ⟨S128x100000, .i32⟩) main_call0_call0_v160) Host.shrui,
    TRef.binary (TRef.of (T := ⟨S128x100000, .i32⟩) main_call0_call0_v158) (TRef.of (T := ⟨S128x100000, .i32⟩) main_call0_call0_v160) (TRef.of (T := ⟨S128x100000, .i32⟩) main_call0_call0_v161) ori,
    TRef.binary (TRef.of (T := ⟨S128x100000, .i32⟩) main_call0_call0_v156) (TRef.of (T := ⟨S128x100000, .i32⟩) main_call0_call0_v161) (TRef.of (T := ⟨S128x100000, .i32⟩) main_call0_call0_v162) xori,
    TRef.binary (TRef.of (T := ⟨S128x100000, .i32⟩) main_call0_call0_v156) (TRef.of (T := ⟨S128x100000, .i32⟩) main_call0_call0_v162) (TRef.of (T := ⟨S128x100000, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S128x100000, .i32⟩) main_call0_call0_v164) (broadcastInDim S128x100000 ![] bcast_S_S128x100000),
    TRef.binary (TRef.of (T := ⟨S128x100000, .i32⟩) main_call0_call0_v162) (TRef.of (T := ⟨S128x100000, .i32⟩) main_call0_call0_v164) (TRef.of (T := ⟨S128x100000, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S128x100000, .i32⟩) main_call0_call0_v166) (broadcastInDim S128x100000 ![] bcast_S_S128x100000),
    TRef.binary (TRef.of (T := ⟨S128x100000, .i32⟩) main_call0_call0_v162) (TRef.of (T := ⟨S128x100000, .i32⟩) main_call0_call0_v166) (TRef.of (T := ⟨S128x100000, .i32⟩) main_call0_call0_v167) Host.shrui,
    TRef.binary (TRef.of (T := ⟨S128x100000, .i32⟩) main_call0_call0_v165) (TRef.of (T := ⟨S128x100000, .i32⟩) main_call0_call0_v167) (TRef.of (T := ⟨S128x100000, .i32⟩) main_call0_call0_v168) ori,
    TRef.binary (TRef.of (T := ⟨S128x100000, .i32⟩) main_call0_call0_v163) (TRef.of (T := ⟨S128x100000, .i32⟩) main_call0_call0_v168) (TRef.of (T := ⟨S128x100000, .i32⟩) main_call0_call0_v169) xori,
    TRef.unary (TRef.of (T := ⟨S_, .i32⟩) main_call0_call0_v1) (TRef.of (T := ⟨S128x100000, .i32⟩) main_call0_call0_v170) (broadcastInDim S128x100000 ![] bcast_S_S128x100000),
    TRef.binary (TRef.of (T := ⟨S128x100000, .i32⟩) main_call0_call0_v163) (TRef.of (T := ⟨S128x100000, .i32⟩) main_call0_call0_v170) (TRef.of (T := ⟨S128x100000, .i32⟩) main_call0_v19_0) addi,
    TRef.unary (TRef.of (T := ⟨S_, .i32⟩) main_call0_v5) (TRef.of (T := ⟨S128x100000, .i32⟩) main_call0_call0_v172) (broadcastInDim S128x100000 ![] bcast_S_S128x100000),
    TRef.binary (TRef.of (T := ⟨S128x100000, .i32⟩) main_call0_call0_v169) (TRef.of (T := ⟨S128x100000, .i32⟩) main_call0_call0_v172) (TRef.of (T := ⟨S128x100000, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S128x100000, .i32⟩) main_call0_call0_v174) (broadcastInDim S128x100000 ![] bcast_S_S128x100000),
    TRef.binary (TRef.of (T := ⟨S128x100000, .i32⟩) main_call0_call0_v173) (TRef.of (T := ⟨S128x100000, .i32⟩) main_call0_call0_v174) (TRef.of (T := ⟨S128x100000, .i32⟩) main_call0_v19_1) addi ]

/-- The buffers they write, in order. -/
abbrev fiveW : List (Ref sig .tc) :=
  [main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v19_0, main_call0_call0_v172, main_call0_call0_v173, main_call0_call0_c_44, main_call0_call0_v174, main_call0_v19_1]

theorem five_writes : (fiveOps : List (HloOp τ sig (Elt F))).Forall fun op => op.writes ⊆ (fiveW.map (Proc.devRef (τ := τ) .tc)).toFinset :=
  forall_writes_sub_of_map rfl

theorem five_sub : (fiveOps : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩

theorem five_fresh : (fiveOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer they do not write keeps its contents. -/
theorem five_keep (V : Valuation τ sig (Elt F)) (r : Ref sig .tc) (h : r ∉ fiveW) :
    after fiveOps V (Proc.devRef .tc r) = V (Proc.devRef .tc r) :=
  after_of_writes_sub fiveOps V five_writes h

/-- The operations of the unit draw and the perturbed log-probabilities. -/
abbrev scoreOps : List (HloOp τ sig (Elt F)) :=
  [ TRef.binary (TRef.of (T := ⟨S128x100000, .i32⟩) main_call0_v19_0) (TRef.of (T := ⟨S128x100000, .i32⟩) main_call0_v19_1) (TRef.of (T := ⟨S128x100000, .i32⟩) main_call0_v20) xori,
    TRef.nullary (TRef.of (T := ⟨S_, .i32⟩) main_call0_c_2) (constantI S_ 32 9#32),
    TRef.unary (TRef.of (T := ⟨S_, .i32⟩) main_call0_c_2) (TRef.of (T := ⟨S128x100000, .i32⟩) main_call0_v21) (broadcastInDim S128x100000 ![] bcast_S_S128x100000),
    TRef.binary (TRef.of (T := ⟨S128x100000, .i32⟩) main_call0_v20) (TRef.of (T := ⟨S128x100000, .i32⟩) main_call0_v21) (TRef.of (T := ⟨S128x100000, .i32⟩) main_call0_v22) Host.shrui,
    TRef.nullary (TRef.of (T := ⟨S_, .i32⟩) main_call0_c_3) (constantI S_ 32 1065353216#32),
    TRef.unary (TRef.of (T := ⟨S_, .i32⟩) main_call0_c_3) (TRef.of (T := ⟨S128x100000, .i32⟩) main_call0_v23) (broadcastInDim S128x100000 ![] bcast_S_S128x100000),
    TRef.binary (TRef.of (T := ⟨S128x100000, .i32⟩) main_call0_v22) (TRef.of (T := ⟨S128x100000, .i32⟩) main_call0_v23) (TRef.of (T := ⟨S128x100000, .i32⟩) main_call0_v24) ori,
    TRef.unary (TRef.of (T := ⟨S128x100000, .i32⟩) main_call0_v24) (TRef.of (T := ⟨S128x100000, .f32⟩) main_call0_v25) (bitcastToFloat (F := F) .f32),
    TRef.nullary (TRef.of (T := ⟨S_, .f32⟩) main_call0_cst) (constant S_ .f32 0x3F800000#32),
    TRef.unary (TRef.of (T := ⟨S_, .f32⟩) main_call0_cst) (TRef.of (T := ⟨S128x100000, .f32⟩) main_call0_v26) (broadcastInDim S128x100000 ![] bcast_S_S128x100000),
    TRef.binary (TRef.of (T := ⟨S128x100000, .f32⟩) main_call0_v25) (TRef.of (T := ⟨S128x100000, .f32⟩) main_call0_v26) (TRef.of (T := ⟨S128x100000, .f32⟩) main_call0_v27) subf,
    TRef.binary (TRef.of (T := ⟨S1x1, .f32⟩) main_call0_v3) (TRef.of (T := ⟨S1x1, .f32⟩) main_call0_v2) (TRef.of (T := ⟨S1x1, .f32⟩) main_call0_v28) subf,
    TRef.unary (TRef.of (T := ⟨S1x1, .f32⟩) main_call0_v28) (TRef.of (T := ⟨S128x100000, .f32⟩) main_call0_v29) (broadcastInDim S128x100000 ![0, 1] bcast_S1x1_S128x100000_0_1),
    TRef.binary (TRef.of (T := ⟨S128x100000, .f32⟩) main_call0_v27) (TRef.of (T := ⟨S128x100000, .f32⟩) main_call0_v29) (TRef.of (T := ⟨S128x100000, .f32⟩) main_call0_v30) mulf,
    TRef.unary (TRef.of (T := ⟨S1x1, .f32⟩) main_call0_v2) (TRef.of (T := ⟨S128x100000, .f32⟩) main_call0_v31) (broadcastInDim S128x100000 ![0, 1] bcast_S1x1_S128x100000_0_1),
    TRef.binary (TRef.of (T := ⟨S128x100000, .f32⟩) main_call0_v30) (TRef.of (T := ⟨S128x100000, .f32⟩) main_call0_v31) (TRef.of (T := ⟨S128x100000, .f32⟩) main_call0_v32) addf,
    TRef.unary (TRef.of (T := ⟨S1x1, .f32⟩) main_call0_v2) (TRef.of (T := ⟨S128x100000, .f32⟩) main_call0_v33) (broadcastInDim S128x100000 ![0, 1] bcast_S1x1_S128x100000_0_1),
    TRef.binary (TRef.of (T := ⟨S128x100000, .f32⟩) main_call0_v33) (TRef.of (T := ⟨S128x100000, .f32⟩) main_call0_v32) (TRef.of (T := ⟨S128x100000, .f32⟩) main_v7) maximumf,
    nullary main_cst_3 (constant S_ .f32 0x3F800000#32),
    unary main_cst_3 main_v8 (broadcastInDim S128x100000 ![] bcast_S_S128x100000 : (⟨S_, .f32⟩ : BufTy).Contents (Elt F) → (⟨S128x100000, .f32⟩ : BufTy).Contents (Elt F)),
    binary main_v7 main_v8 main_v9 (mulf : (⟨S128x100000, .f32⟩ : BufTy).Contents (Elt F) → (⟨S128x100000, .f32⟩ : BufTy).Contents (Elt F) → (⟨S128x100000, .f32⟩ : BufTy).Contents (Elt F)),
    nullary main_cst_4 (constant S_ .f32 0x00800000#32),
    unary main_cst_4 main_v10 (broadcastInDim S128x100000 ![] bcast_S_S128x100000 : (⟨S_, .f32⟩ : BufTy).Contents (Elt F) → (⟨S128x100000, .f32⟩ : BufTy).Contents (Elt F)),
    binary main_v9 main_v10 main_v11 (addf : (⟨S128x100000, .f32⟩ : BufTy).Contents (Elt F) → (⟨S128x100000, .f32⟩ : BufTy).Contents (Elt F) → (⟨S128x100000, .f32⟩ : BufTy).Contents (Elt F)),
    nullary main_cst_5 (constant S_ .f32 0x00800000#32),
    unary main_cst_5 main_v12 (broadcastInDim S128x100000 ![] bcast_S_S128x100000 : (⟨S_, .f32⟩ : BufTy).Contents (Elt F) → (⟨S128x100000, .f32⟩ : BufTy).Contents (Elt F)),
    binary main_v12 main_v11 main_v13 (maximumf : (⟨S128x100000, .f32⟩ : BufTy).Contents (Elt F) → (⟨S128x100000, .f32⟩ : BufTy).Contents (Elt F) → (⟨S128x100000, .f32⟩ : BufTy).Contents (Elt F)),
    unary main_v13 main_v14 (Host.log : (⟨S128x100000, .f32⟩ : BufTy).Contents (Elt F) → (⟨S128x100000, .f32⟩ : BufTy).Contents (Elt F)),
    unary main_v14 main_v15 (Host.negf : (⟨S128x100000, .f32⟩ : BufTy).Contents (Elt F) → (⟨S128x100000, .f32⟩ : BufTy).Contents (Elt F)),
    unary main_v15 main_v16 (Host.log : (⟨S128x100000, .f32⟩ : BufTy).Contents (Elt F) → (⟨S128x100000, .f32⟩ : BufTy).Contents (Elt F)),
    unary main_v16 main_v17 (Host.negf : (⟨S128x100000, .f32⟩ : BufTy).Contents (Elt F) → (⟨S128x100000, .f32⟩ : BufTy).Contents (Elt F)),
    unary main_arg0 main_v18 (Host.log : (⟨S128x100000, .f32⟩ : BufTy).Contents (Elt F) → (⟨S128x100000, .f32⟩ : BufTy).Contents (Elt F)),
    binary main_v17 main_v18 main_v19 (addf : (⟨S128x100000, .f32⟩ : BufTy).Contents (Elt F) → (⟨S128x100000, .f32⟩ : BufTy).Contents (Elt F) → (⟨S128x100000, .f32⟩ : BufTy).Contents (Elt F)) ]

/-- The buffers they write, in order. -/
abbrev scoreW : List (Ref sig .tc) :=
  [main_call0_v20, main_call0_c_2, main_call0_v21, main_call0_v22, main_call0_c_3, main_call0_v23, main_call0_v24, main_call0_v25, main_call0_cst, main_call0_v26, main_call0_v27, main_call0_v28, main_call0_v29, main_call0_v30, main_call0_v31, main_call0_v32, main_call0_v33, main_v7, main_cst_3, main_v8, main_v9, main_cst_4, main_v10, main_v11, main_cst_5, main_v12, main_v13, main_v14, main_v15, main_v16, main_v17, main_v18, main_v19]

theorem score_writes : (scoreOps : List (HloOp τ sig (Elt F))).Forall fun op => op.writes ⊆ (scoreW.map (Proc.devRef (τ := τ) .tc)).toFinset :=
  forall_writes_sub_of_map rfl

theorem score_sub : (scoreOps : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub ..⟩

theorem score_fresh : (scoreOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A buffer they do not write keeps its contents. -/
theorem score_keep (V : Valuation τ sig (Elt F)) (r : Ref sig .tc) (h : r ∉ scoreW) :
    after scoreOps V (Proc.devRef .tc r) = V (Proc.devRef .tc r) :=
  after_of_writes_sub scoreOps V score_writes h

/-- The operations of the position of the largest and its one-hot row. -/
abbrev pickOps : List (HloOp τ sig (Elt F)) :=
  [ TRef.nullary (TRef.of (T := ⟨S128x100000, .i32⟩) main_call1_v0) (iotaInDim S128x100000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S128x100000, .f32⟩) main_v19) (TRef.of (T := ⟨S128x100000, .i32⟩) main_call1_v0) (TRef.of (T := ⟨S_, .f32⟩) main_call1_cst) (TRef.of (T := ⟨S_, .i32⟩) main_call1_c) (TRef.of (T := ⟨S128, .f32⟩) main_call1_v1_0) (fun x y u v => (fun j => Host.argReduce reducer_argmax_f32_i32 x y u v reducesTo_S128x100000_S128_d1 h_S_ j |>.1)),
    TRef.quaternary (TRef.of (T := ⟨S128x100000, .f32⟩) main_v19) (TRef.of (T := ⟨S128x100000, .i32⟩) main_call1_v0) (TRef.of (T := ⟨S_, .f32⟩) main_call1_cst) (TRef.of (T := ⟨S_, .i32⟩) main_call1_c) (TRef.of (T := ⟨S128, .i32⟩) main_v20) (fun x y u v => (fun j => Host.argReduce reducer_argmax_f32_i32 x y u v reducesTo_S128x100000_S128_d1 h_S_ j |>.2)),
    TRef.unary (TRef.of (T := ⟨S128, .i32⟩) main_v20) (TRef.of (T := ⟨S128x1, .i32⟩) main_call2_v0) (broadcastInDim S128x1 ![0] bcast_S128_S128x1_0),
    TRef.nullary (TRef.of (T := ⟨S1x100000, .i32⟩) main_call2_v1) (iotaInDim S1x100000 32 1),
    TRef.unary (TRef.of (T := ⟨S128x1, .i32⟩) main_call2_v0) (TRef.of (T := ⟨S128x100000, .i32⟩) main_call2_v2) (broadcastInDim S128x100000 ![0, 1] bcast_S128x1_S128x100000_0_1),
    TRef.unary (TRef.of (T := ⟨S1x100000, .i32⟩) main_call2_v1) (TRef.of (T := ⟨S128x100000, .i32⟩) main_call2_v3) (broadcastInDim S128x100000 ![0, 1] bcast_S1x100000_S128x100000_0_1),
    TRef.binary (TRef.of (T := ⟨S128x100000, .i32⟩) main_call2_v2) (TRef.of (T := ⟨S128x100000, .i32⟩) main_call2_v3) (TRef.of (T := ⟨S128x100000, .i1⟩) main_call2_v4) (cmpi .eq),
    TRef.unary (TRef.of (T := ⟨S128x100000, .i1⟩) main_call2_v4) (TRef.of (T := ⟨S128x100000, .f32⟩) main_v21) (uitofp .f32) ]

/-- The buffers they write, in order. -/
abbrev pickW : List (Ref sig .tc) :=
  [main_call1_v0, main_call1_cst, main_call1_c, main_call1_v1_0, main_v20, main_call2_v0, main_call2_v1, main_call2_v2, main_call2_v3, main_call2_v4, main_v21]

theorem pick_writes : (pickOps : List (HloOp τ sig (Elt F))).Forall fun op => op.writes ⊆ (pickW.map (Proc.devRef (τ := τ) .tc)).toFinset :=
  forall_writes_sub_of_map rfl

theorem pick_sub : (pickOps : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩

theorem pick_fresh : (pickOps : List (HloOp τ sig (Elt F))).Forall fun op => op.fresh = ∅ :=
  ⟨rfl, rfl, rfl, rfl, rfl, rfl, rfl, rfl, rfl, rfl, rfl⟩

/-- A buffer they do not write keeps its contents. -/
theorem pick_keep (V : Valuation τ sig (Elt F)) (r : Ref sig .tc) (h : r ∉ pickW) :
    after pickOps V (Proc.devRef .tc r) = V (Proc.devRef .tc r) :=
  after_of_writes_sub pickOps V pick_writes h

/-- The whole program. -/
abbrev ops : List (HloOp τ sig (Elt F)) :=
  keyOps ++ (startOps ++ (oneOps ++ (twoOps ++ (threeOps ++ (fourOps ++ (fiveOps ++ (scoreOps ++ (pickOps))))))))

set_option maxHeartbeats 2000000 in
theorem main_eq (c : Dev nD) : main (F := F) c = seq ops := rfl

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp key_sub op h,
      List.forall_iff_forall_mem.mp start_sub op h,
      List.forall_iff_forall_mem.mp one_sub op h,
      List.forall_iff_forall_mem.mp two_sub op h,
      List.forall_iff_forall_mem.mp three_sub op h,
      List.forall_iff_forall_mem.mp four_sub op h,
      List.forall_iff_forall_mem.mp five_sub op h,
      List.forall_iff_forall_mem.mp score_sub op h,
      List.forall_iff_forall_mem.mp pick_sub op h]

theorem ops_fresh : ∀ op ∈ (ops : List (HloOp τ sig (Elt F))), op.fresh = ∅ := fun op h => by
    simp only [ops, List.mem_append] at h
    rcases h with h | h | h | h | h | h | h | h | h
    exacts [List.forall_iff_forall_mem.mp key_fresh op h,
      List.forall_iff_forall_mem.mp start_fresh op h,
      List.forall_iff_forall_mem.mp one_fresh op h,
      List.forall_iff_forall_mem.mp two_fresh op h,
      List.forall_iff_forall_mem.mp three_fresh op h,
      List.forall_iff_forall_mem.mp four_fresh op h,
      List.forall_iff_forall_mem.mp five_fresh op h,
      List.forall_iff_forall_mem.mp score_fresh op h,
      List.forall_iff_forall_mem.mp pick_fresh op h]

theorem no_scoped : (Finset.univ.filter fun b : Ref sig .tc => b.isScoped) = ∅ := by decide

theorem no_scoped_sems : (Finset.univ.filter fun sm : SemLoc sig => sm.isScoped .tc) = ∅ := by decide

end Cert.Proof.Ref
-- ==== Proof.RefValue.lean ====
/-
  What the reference's buffers hold along its run: the generator's states as `Hash` computes them entry by entry, the scores,
  and the one-hot rows.
-/
module

public import proofs.«01_k».proof.Proof.RefOps
public import proofs.«01_k».proof.Proof.Hash

@[expose] public section

set_option maxRecDepth 16384

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

set_option maxHeartbeats 1000000 in
theorem one_fst (V : Valuation τ sig (Elt F)) (s : S128x100000.Idx → Hash.State)
    (h0 : V (Proc.devRef .tc main_call0_call0_v3) = fun j => (s j).1) (h1 : V (Proc.devRef .tc main_call0_call0_v5) = fun j => (s j).2)
    (k0 : V (Proc.devRef .tc main_call0_v5) = fun _ => 0#32) (k1 : V (Proc.devRef .tc main_call0_v7) = fun _ => 42#32)
    (k2 : V (Proc.devRef .tc main_call0_call0_v1) = fun _ => 466689008#32) :
    after oneOps V (Proc.devRef .tc main_call0_call0_v35) = fun j => (Hash.group1 (s j)).1 := by
  simp only [oneOps, TRef.binary, TRef.nullary, TRef.unary, TRef.toBuf, TRef.ofBuf, cast_eq]
  after_results_simp
  simp only [h0, h1, k0, k1, k2]
  rfl

set_option maxHeartbeats 1000000 in
theorem one_snd (V : Valuation τ sig (Elt F)) (s : S128x100000.Idx → Hash.State)
    (h0 : V (Proc.devRef .tc main_call0_call0_v3) = fun j => (s j).1) (h1 : V (Proc.devRef .tc main_call0_call0_v5) = fun j => (s j).2)
    (k0 : V (Proc.devRef .tc main_call0_v5) = fun _ => 0#32) (k1 : V (Proc.devRef .tc main_call0_v7) = fun _ => 42#32)
    (k2 : V (Proc.devRef .tc main_call0_call0_v1) = fun _ => 466689008#32) :
    after oneOps V (Proc.devRef .tc main_call0_call0_v39) = fun j => (Hash.group1 (s j)).2 := by
  simp only [oneOps, TRef.binary, TRef.nullary, TRef.unary, TRef.toBuf, TRef.ofBuf, cast_eq]
  after_results_simp
  simp only [h0, h1, k0, k1, k2]
  rfl

set_option maxHeartbeats 1000000 in
theorem two_fst (V : Valuation τ sig (Elt F)) (s : S128x100000.Idx → Hash.State)
    (h0 : V (Proc.devRef .tc main_call0_call0_v35) = fun j => (s j).1) (h1 : V (Proc.devRef .tc main_call0_call0_v39) = fun j => (s j).2)
    (k0 : V (Proc.devRef .tc main_call0_v5) = fun _ => 0#32) (k1 : V (Proc.devRef .tc main_call0_v7) = fun _ => 42#32)
    (k2 : V (Proc.devRef .tc main_call0_call0_v1) = fun _ => 466689008#32) :
    after twoOps V (Proc.devRef .tc main_call0_call0_v69) = fun j => (Hash.group2 (s j)).1 := by
  simp only [twoOps, TRef.binary, TRef.nullary, TRef.unary, TRef.toBuf, TRef.ofBuf, cast_eq]
  after_results_simp
  simp only [h0, h1, k0, k1, k2]
  rfl

set_option maxHeartbeats 1000000 in
theorem two_snd (V : Valuation τ sig (Elt F)) (s : S128x100000.Idx → Hash.State)
    (h0 : V (Proc.devRef .tc main_call0_call0_v35) = fun j => (s j).1) (h1 : V (Proc.devRef .tc main_call0_call0_v39) = fun j => (s j).2)
    (k0 : V (Proc.devRef .tc main_call0_v5) = fun _ => 0#32) (k1 : V (Proc.devRef .tc main_call0_v7) = fun _ => 42#32)
    (k2 : V (Proc.devRef .tc main_call0_call0_v1) = fun _ => 466689008#32) :
    after twoOps V (Proc.devRef .tc main_call0_call0_v73) = fun j => (Hash.group2 (s j)).2 := by
  simp only [twoOps, TRef.binary, TRef.nullary, TRef.unary, TRef.toBuf, TRef.ofBuf, cast_eq]
  after_results_simp
  simp only [h0, h1, k0, k1, k2]
  rfl

set_option maxHeartbeats 1000000 in
theorem three_fst (V : Valuation τ sig (Elt F)) (s : S128x100000.Idx → Hash.State)
    (h0 : V (Proc.devRef .tc main_call0_call0_v69) = fun j => (s j).1) (h1 : V (Proc.devRef .tc main_call0_call0_v73) = fun j => (s j).2)
    (k0 : V (Proc.devRef .tc main_call0_v5) = fun _ => 0#32) (k1 : V (Proc.devRef .tc main_call0_v7) = fun _ => 42#32)
    (k2 : V (Proc.devRef .tc main_call0_call0_v1) = fun _ => 466689008#32) :
    after threeOps V (Proc.devRef .tc main_call0_call0_v103) = fun j => (Hash.group3 (s j)).1 := by
  simp only [threeOps, TRef.binary, TRef.nullary, TRef.unary, TRef.toBuf, TRef.ofBuf, cast_eq]
  after_results_simp
  simp only [h0, h1, k0, k1, k2]
  rfl

set_option maxHeartbeats 1000000 in
theorem three_snd (V : Valuation τ sig (Elt F)) (s : S128x100000.Idx → Hash.State)
    (h0 : V (Proc.devRef .tc main_call0_call0_v69) = fun j => (s j).1) (h1 : V (Proc.devRef .tc main_call0_call0_v73) = fun j => (s j).2)
    (k0 : V (Proc.devRef .tc main_call0_v5) = fun _ => 0#32) (k1 : V (Proc.devRef .tc main_call0_v7) = fun _ => 42#32)
    (k2 : V (Proc.devRef .tc main_call0_call0_v1) = fun _ => 466689008#32) :
    after threeOps V (Proc.devRef .tc main_call0_call0_v107) = fun j => (Hash.group3 (s j)).2 := by
  simp only [threeOps, TRef.binary, TRef.nullary, TRef.unary, TRef.toBuf, TRef.ofBuf, cast_eq]
  after_results_simp
  simp only [h0, h1, k0, k1, k2]
  rfl

set_option maxHeartbeats 1000000 in
theorem four_fst (V : Valuation τ sig (Elt F)) (s : S128x100000.Idx → Hash.State)
    (h0 : V (Proc.devRef .tc main_call0_call0_v103) = fun j => (s j).1) (h1 : V (Proc.devRef .tc main_call0_call0_v107) = fun j => (s j).2)
    (k0 : V (Proc.devRef .tc main_call0_v5) = fun _ => 0#32) (k1 : V (Proc.devRef .tc main_call0_v7) = fun _ => 42#32)
    (k2 : V (Proc.devRef .tc main_call0_call0_v1) = fun _ => 466689008#32) :
    after fourOps V (Proc.devRef .tc main_call0_call0_v137) = fun j => (Hash.group4 (s j)).1 := by
  simp only [fourOps, TRef.binary, TRef.nullary, TRef.unary, TRef.toBuf, TRef.ofBuf, cast_eq]
  after_results_simp
  simp only [h0, h1, k0, k1, k2]
  rfl

set_option maxHeartbeats 1000000 in
theorem four_snd (V : Valuation τ sig (Elt F)) (s : S128x100000.Idx → Hash.State)
    (h0 : V (Proc.devRef .tc main_call0_call0_v103) = fun j => (s j).1) (h1 : V (Proc.devRef .tc main_call0_call0_v107) = fun j => (s j).2)
    (k0 : V (Proc.devRef .tc main_call0_v5) = fun _ => 0#32) (k1 : V (Proc.devRef .tc main_call0_v7) = fun _ => 42#32)
    (k2 : V (Proc.devRef .tc main_call0_call0_v1) = fun _ => 466689008#32) :
    after fourOps V (Proc.devRef .tc main_call0_call0_v141) = fun j => (Hash.group4 (s j)).2 := by
  simp only [fourOps, TRef.binary, TRef.nullary, TRef.unary, TRef.toBuf, TRef.ofBuf, cast_eq]
  after_results_simp
  simp only [h0, h1, k0, k1, k2]
  rfl

set_option maxHeartbeats 1000000 in
theorem five_fst (V : Valuation τ sig (Elt F)) (s : S128x100000.Idx → Hash.State)
    (h0 : V (Proc.devRef .tc main_call0_call0_v137) = fun j => (s j).1) (h1 : V (Proc.devRef .tc main_call0_call0_v141) = fun j => (s j).2)
    (k0 : V (Proc.devRef .tc main_call0_v5) = fun _ => 0#32) (k1 : V (Proc.devRef .tc main_call0_v7) = fun _ => 42#32)
    (k2 : V (Proc.devRef .tc main_call0_call0_v1) = fun _ => 466689008#32) :
    after fiveOps V (Proc.devRef .tc main_call0_v19_0) = fun j => (Hash.group5 (s j)).1 := by
  simp only [fiveOps, TRef.binary, TRef.nullary, TRef.unary, TRef.toBuf, TRef.ofBuf, cast_eq]
  after_results_simp
  simp only [h0, h1, k0, k1, k2]
  rfl

set_option maxHeartbeats 1000000 in
theorem five_snd (V : Valuation τ sig (Elt F)) (s : S128x100000.Idx → Hash.State)
    (h0 : V (Proc.devRef .tc main_call0_call0_v137) = fun j => (s j).1) (h1 : V (Proc.devRef .tc main_call0_call0_v141) = fun j => (s j).2)
    (k0 : V (Proc.devRef .tc main_call0_v5) = fun _ => 0#32) (k1 : V (Proc.devRef .tc main_call0_v7) = fun _ => 42#32)
    (k2 : V (Proc.devRef .tc main_call0_call0_v1) = fun _ => 466689008#32) :
    after fiveOps V (Proc.devRef .tc main_call0_v19_1) = fun j => (Hash.group5 (s j)).2 := by
  simp only [fiveOps, TRef.binary, TRef.nullary, TRef.unary, TRef.toBuf, TRef.ofBuf, cast_eq]
  after_results_simp
  simp only [h0, h1, k0, k1, k2]
  rfl

end Cert.Proof.Ref
-- ==== Proof.RefScore.lean ====
/-
  The reference's key and counters, its scores, and its run: the generator's states are `Hash`'s, the score of an entry is
  `refScore` of its place and its probability, and the result is the one-hot rows of the positions of the largest scores.
-/
module

public import proofs.«01_k».proof.Proof.RefValue
public import Idealize.ShloMosaic.Lib.Quiescent

@[expose] public section

set_option maxRecDepth 16384

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-- The place of an entry in the table's row-major order, as the counter's low word. -/
def place (j : S128x100000.Idx) : BitVec 32 := BitVec.ofNat 32 (100000 * (j 0).val + (j 1).val)

/-- The same place as the 64-bit counter the reference forms. -/
def place64 (j : S128x100000.Idx) : BitVec 64 := 100000#64 * BitVec.ofNat 64 (j 0).val + 1#64 * BitVec.ofNat 64 (j 1).val

theorem place64_toNat (j : S128x100000.Idx) : (place64 j).toNat = 100000 * (j 0).val + (j 1).val := by
  have h0 : (j 0).val < 128 := (j 0).isLt
  have h1 : (j 1).val < 100000 := (j 1).isLt
  unfold place64
  generalize (j 0).val = a at *
  generalize (j 1).val = b at *
  simp only [BitVec.toNat_add, BitVec.toNat_mul, BitVec.toNat_ofNat]
  omega

theorem place64_low (j : S128x100000.Idx) : (place64 j).setWidth 32 = place j := by
  apply BitVec.eq_of_toNat_eq
  rw [BitVec.toNat_setWidth, place64_toNat, place, BitVec.toNat_ofNat]

theorem place64_high (j : S128x100000.Idx) : (place64 j >>> 32).setWidth 32 = 0#32 := by
  have h0 : (j 0).val < 128 := (j 0).isLt
  have h1 : (j 1).val < 100000 := (j 1).isLt
  apply BitVec.eq_of_toNat_eq
  rw [BitVec.toNat_setWidth, BitVec.toNat_ushiftRight, place64_toNat, Nat.shiftRight_eq_div_pow]
  generalize (j 0).val = a at *
  generalize (j 1).val = b at *
  rw [Nat.div_eq_of_lt (by omega)]
  rfl

theorem row_eq (k : S1.Idx) : k = (fun a => ⟨0, by revert a; decide⟩ : S1.Idx) := by
  refine funext fun a => ?_
  apply Fin.ext
  have h : (k a).val < S1.size a := (k a).isLt
  have e := (by decide : ∀ a : Fin S1.rank, S1.size a = 1) a
  show (k a).val = 0
  omega

/-- The first word of the pair of key words. -/
theorem join_fst (a b : S1.Idx → BitVec 32) (x y : BitVec 32) (ha : a = fun _ => x) (hb : b = fun _ => y) (k : S1.Idx) :
    extractStridedSlice S1 ![0] (concatenate S2 0 [⟨S1, a⟩, ⟨S1, b⟩] concatenates_S1_S1_S2_d0) slices_S2_S1_0 k = x := by
  rw [row_eq k, ha, hb]
  rfl

/-- The second word of the pair of key words. -/
theorem join_snd (a b : S1.Idx → BitVec 32) (x y : BitVec 32) (ha : a = fun _ => x) (hb : b = fun _ => y) (k : S1.Idx) :
    extractStridedSlice S1 ![1] (concatenate S2 0 [⟨S1, a⟩, ⟨S1, b⟩] concatenates_S1_S1_S2_d0) slices_S2_S1_1 k = y := by
  rw [row_eq k, ha, hb]
  rfl

theorem key_hi (V : Valuation τ sig (Elt F)) : after keyOps V (Proc.devRef .tc main_call0_v5) = fun _ => 0#32 := by
  simp only [keyOps, TRef.binary, TRef.nullary, TRef.unary, TRef.reshape, TRef.toBuf, TRef.ofBuf, cast_eq]
  generalize hj : (fun a b => concatenate S2 0 [⟨S1, a⟩, ⟨S1, b⟩] concatenates_S1_S1_S2_d0 :
    (⟨S1, .i32⟩ : BufTy).Contents (Elt F) → (⟨S1, .i32⟩ : BufTy).Contents (Elt F) → (⟨S2, .i32⟩ : BufTy).Contents (Elt F)) = join
  after_results_simp
  subst hj
  exact funext fun i => join_fst _ _ 0#32 42#32 (funext fun _ => (by decide : IntOp.shrui .host 42#32 32#32 = 0#32))
    (funext fun _ => (by decide : 42#32 &&& 4294967295#32 = 42#32)) _

theorem key_lo (V : Valuation τ sig (Elt F)) : after keyOps V (Proc.devRef .tc main_call0_v7) = fun _ => 42#32 := by
  simp only [keyOps, TRef.binary, TRef.nullary, TRef.unary, TRef.reshape, TRef.toBuf, TRef.ofBuf, cast_eq]
  generalize hj : (fun a b => concatenate S2 0 [⟨S1, a⟩, ⟨S1, b⟩] concatenates_S1_S1_S2_d0 :
    (⟨S1, .i32⟩ : BufTy).Contents (Elt F) → (⟨S1, .i32⟩ : BufTy).Contents (Elt F) → (⟨S2, .i32⟩ : BufTy).Contents (Elt F)) = join
  after_results_simp
  subst hj
  exact funext fun i => join_snd _ _ 0#32 42#32 (funext fun _ => (by decide : IntOp.shrui .host 42#32 32#32 = 0#32))
    (funext fun _ => (by decide : 42#32 &&& 4294967295#32 = 42#32)) _

theorem key_zero (V : Valuation τ sig (Elt F)) :
    after keyOps V (Proc.devRef .tc main_call0_v2) = fun _ => FloatOps.ofBits .f32 0x00000000#32 := by
  simp only [keyOps, TRef.binary, TRef.nullary, TRef.unary, TRef.reshape, TRef.toBuf, TRef.ofBuf, cast_eq]
  after_results_simp
  rfl

theorem key_one (V : Valuation τ sig (Elt F)) :
    after keyOps V (Proc.devRef .tc main_call0_v3) = fun _ => FloatOps.ofBits .f32 0x3F800000#32 := by
  simp only [keyOps, TRef.binary, TRef.nullary, TRef.unary, TRef.reshape, TRef.toBuf, TRef.ofBuf, cast_eq]
  after_results_simp
  rfl

theorem key_place (V : Valuation τ sig (Elt F)) : after keyOps V (Proc.devRef .tc main_call0_v17) = place := by
  simp only [keyOps, TRef.binary, TRef.nullary, TRef.unary, TRef.reshape, TRef.toBuf, TRef.ofBuf, cast_eq]
  after_results_simp
  exact funext place64_low

theorem key_high (V : Valuation τ sig (Elt F)) : after keyOps V (Proc.devRef .tc main_call0_v18) = fun _ => 0#32 := by
  simp only [keyOps, TRef.binary, TRef.nullary, TRef.unary, TRef.reshape, TRef.toBuf, TRef.ofBuf, cast_eq]
  after_results_simp
  exact funext place64_high

theorem start_third (V : Valuation τ sig (Elt F)) (k0 : V (Proc.devRef .tc main_call0_v5) = fun _ => 0#32)
    (k1 : V (Proc.devRef .tc main_call0_v7) = fun _ => 42#32) :
    after startOps V (Proc.devRef .tc main_call0_call0_v1) = fun _ => 466689008#32 := by
  simp only [startOps, TRef.binary, TRef.nullary, TRef.unary, TRef.toBuf, TRef.ofBuf, cast_eq]
  after_results_simp
  simp only [k0, k1]
  exact funext fun _ => (by decide : (0#32 ^^^ 42#32) ^^^ 466688986#32 = 466689008#32)

theorem start_fst (V : Valuation τ sig (Elt F)) (k0 : V (Proc.devRef .tc main_call0_v5) = fun _ => 0#32)
    (h : V (Proc.devRef .tc main_call0_v18) = fun _ => 0#32) :
    after startOps V (Proc.devRef .tc main_call0_call0_v3) = fun j => (Hash.start (place j)).1 := by
  simp only [startOps, TRef.binary, TRef.nullary, TRef.unary, TRef.toBuf, TRef.ofBuf, cast_eq]
  after_results_simp
  simp only [k0, h]
  rfl

theorem start_snd (V : Valuation τ sig (Elt F)) (k1 : V (Proc.devRef .tc main_call0_v7) = fun _ => 42#32)
    (h : V (Proc.devRef .tc main_call0_v17) = place) :
    after startOps V (Proc.devRef .tc main_call0_call0_v5) = fun j => (Hash.start (place j)).2 := by
  simp only [startOps, TRef.binary, TRef.nullary, TRef.unary, TRef.toBuf, TRef.ofBuf, cast_eq]
  after_results_simp
  simp only [k1, h]
  rfl

/-- The uniform number the reference draws at counter `n`: the float in `[1, 2)` less one, scaled to `[0, 1)` and bounded below
    by zero. -/
def refUnit (b : BitVec 32) : F .f32 :=
  FloatOps.maximumf (FloatOps.ofBits .f32 0x00000000#32)
    (FloatOps.addf
      (FloatOps.mulf (FloatOps.subf (FloatOps.ofBits .f32 b) (FloatOps.ofBits .f32 0x3F800000#32))
        (FloatOps.subf (FloatOps.ofBits .f32 0x3F800000#32) (FloatOps.ofBits .f32 0x00000000#32)))
      (FloatOps.ofBits .f32 0x00000000#32))

/-- The score of a uniform number and a probability. -/
def refScore (u p : F .f32) : F .f32 :=
  FloatOps.addf
    (FloatOps.hostNegf (FloatOps.hostUnary .log (FloatOps.hostNegf (FloatOps.hostUnary .log
      (FloatOps.maximumf (FloatOps.ofBits .f32 0x00800000#32)
        (FloatOps.addf (FloatOps.mulf u (FloatOps.ofBits .f32 0x3F800000#32)) (FloatOps.ofBits .f32 0x00800000#32)))))))
    (FloatOps.hostUnary .log p)

set_option maxHeartbeats 1000000 in
theorem score_val (V : Valuation τ sig (Elt F)) (s : S128x100000.Idx → Hash.State)
    (h0 : V (Proc.devRef .tc main_call0_v19_0) = fun j => (s j).1) (h1 : V (Proc.devRef .tc main_call0_v19_1) = fun j => (s j).2)
    (k0 : V (Proc.devRef .tc main_call0_v2) = fun _ => FloatOps.ofBits .f32 0x00000000#32)
    (k1 : V (Proc.devRef .tc main_call0_v3) = fun _ => FloatOps.ofBits .f32 0x3F800000#32) :
    after scoreOps V (Proc.devRef .tc main_v19)
      = fun j => refScore (refUnit ((((s j).1 ^^^ (s j).2) >>> 9) ||| 1065353216#32)) ((V (Proc.devRef .tc main_arg0) : Vec F S128x100000 .f32) j) := by
  simp only [scoreOps, TRef.binary, TRef.nullary, TRef.unary, TRef.toBuf, TRef.ofBuf, cast_eq]
  after_results_simp
  simp only [h0, h1, k0, k1]
  rfl

/-- The pairs of score and position the reference's reduction picks, row by row. -/
@[irreducible] def refPick (x : Vec F S128x100000 .f32) : S128.Idx → F .f32 × BitVec 32 :=
  Host.argReduce reducer_argmax_f32_i32 x (iotaInDim S128x100000 32 1) (constant S_ .f32 0xFF800000#32)
    (constantI S_ 32 0#32) reducesTo_S128x100000_S128_d1 h_S_

theorem refPick_eq (x : Vec F S128x100000 .f32) :
    refPick x = Host.argReduce reducer_argmax_f32_i32 x (iotaInDim S128x100000 32 1) (constant S_ .f32 0xFF800000#32)
      (constantI S_ 32 0#32) reducesTo_S128x100000_S128_d1 h_S_ := by
  with_unfolding_all rfl

/-- The second component of a pair, kept from being computed. -/
@[irreducible] def second {A B : Type} (p : A × B) : B := p.2

theorem second_eq {A B : Type} (p : A × B) : p.2 = second p := by
  unfold second; rfl

/-- The positions alone. -/
def refIdx (x : Vec F S128x100000 .f32) : Vec F S128 .i32 := fun j => second (refPick x j)

theorem refIdx_of_pick (x : Vec F S128x100000 .f32) (j : S128.Idx) (a : F .f32) (b : BitVec 32) (h : refPick x j = (a, b)) :
    refIdx x j = b :=
  (congrArg second h).trans (second_eq (a, b)).symm

/-- The index of a row in the vector of positions. -/
def posIx (r : Fin 128) : S128.Idx := fun a => match a with
  | ⟨0, _⟩ => r

/-- The column of positions laid along the rows. -/
theorem spread_pos (I : Vec F S128 .i32) (j : S128x100000.Idx) :
    broadcastInDim S128x100000 ![0, 1] bcast_S128x1_S128x100000_0_1 (broadcastInDim S128x1 ![0] bcast_S128_S128x1_0 I) j
      = I (posIx (j 0)) := by
  refine congrArg I (funext fun a => ?_)
  match a with
  | ⟨0, _⟩ => rfl

/-- The columns' numbers laid along the rows. -/
theorem spread_col (j : S128x100000.Idx) :
    broadcastInDim S128x100000 ![0, 1] bcast_S1x100000_S128x100000_0_1 (iotaInDim S1x100000 32 1) j = BitVec.ofNat 32 (j 1).val :=
  rfl

set_option maxHeartbeats 1000000 in
theorem pick_val (V : Valuation τ sig (Elt F)) (x : Vec F S128x100000 .f32) (h : V (Proc.devRef .tc main_v19) = x) :
    after pickOps V (Proc.devRef .tc main_v21)
      = fun j => FloatOps.uitofp .f32 (IntOp.cmpi .eq (refIdx x (posIx (j 0))) (BitVec.ofNat 32 (j 1).val)) := by
  simp only [pickOps, TRef.binary, TRef.nullary, TRef.unary, TRef.quaternary, TRef.toBuf, TRef.ofBuf, cast_eq]
  after_results_simp
  simp only [h, ← refPick_eq, second_eq]
  refine funext fun j => ?_
  refine congrArg (FloatOps.uitofp .f32) ?_
  exact congrArg₂ (IntOp.cmpi .eq) (spread_pos (refIdx x) j) (spread_col j)

/-- The scores of the reference, from the probabilities. -/
def refScores (p : Vec F S128x100000 .f32) : Vec F S128x100000 .f32 := fun j => refScore (refUnit (Hash.unitBits (place j))) (p j)

/-- The one-hot rows of the reference, from the probabilities. -/
def refHot (p : Vec F S128x100000 .f32) : Vec F S128x100000 .f32 := fun j =>
  FloatOps.uitofp .f32 (IntOp.cmpi .eq (refIdx (refScores p) (posIx (j 0))) (BitVec.ofNat 32 (j 1).val))

/-- What the run leaves in the result buffer. -/
theorem ops_hot (V : Valuation τ sig (Elt F)) :
    after ops V (Proc.devRef .tc main_v21) = refHot (V (Proc.devRef .tc main_arg0)) := by
  unfold ops
  simp only [StableHlo.after_append]
  generalize hA : after keyOps V = A
  generalize hB : after startOps A = B
  generalize hC : after oneOps B = C
  generalize hD : after twoOps C = D
  generalize hE : after threeOps D = E
  generalize hG : after fourOps E = G
  generalize hH : after fiveOps G = H
  have a5 : A (Proc.devRef .tc main_call0_v5) = fun _ => 0#32 := hA ▸ key_hi V
  have a7 : A (Proc.devRef .tc main_call0_v7) = fun _ => 42#32 := hA ▸ key_lo V
  have a2 : A (Proc.devRef .tc main_call0_v2) = fun _ => FloatOps.ofBits .f32 0x00000000#32 := hA ▸ key_zero V
  have a3 : A (Proc.devRef .tc main_call0_v3) = fun _ => FloatOps.ofBits .f32 0x3F800000#32 := hA ▸ key_one V
  have a17 : A (Proc.devRef .tc main_call0_v17) = place := hA ▸ key_place V
  have a18 : A (Proc.devRef .tc main_call0_v18) = fun _ => 0#32 := hA ▸ key_high V
  have a0 : A (Proc.devRef .tc main_arg0) = V (Proc.devRef .tc main_arg0) := hA ▸ key_keep V _ (by decide)
  have b5 : B (Proc.devRef .tc main_call0_v5) = fun _ => 0#32 := (hB ▸ start_keep A _ (by decide)).trans a5
  have b7 : B (Proc.devRef .tc main_call0_v7) = fun _ => 42#32 := (hB ▸ start_keep A _ (by decide)).trans a7
  have b2 : B (Proc.devRef .tc main_call0_v2) = fun _ => FloatOps.ofBits .f32 0x00000000#32 := (hB ▸ start_keep A _ (by decide)).trans a2
  have b3 : B (Proc.devRef .tc main_call0_v3) = fun _ => FloatOps.ofBits .f32 0x3F800000#32 := (hB ▸ start_keep A _ (by decide)).trans a3
  have b0 : B (Proc.devRef .tc main_arg0) = V (Proc.devRef .tc main_arg0) := (hB ▸ start_keep A _ (by decide)).trans a0
  have b1 : B (Proc.devRef .tc main_call0_call0_v1) = fun _ => 466689008#32 := hB ▸ start_third A a5 a7
  have bx : B (Proc.devRef .tc main_call0_call0_v3) = fun j => (Hash.start (place j)).1 := hB ▸ start_fst A a5 a18
  have by' : B (Proc.devRef .tc main_call0_call0_v5) = fun j => (Hash.start (place j)).2 := hB ▸ start_snd A a7 a17
  have c5 : C (Proc.devRef .tc main_call0_v5) = fun _ => 0#32 := (hC ▸ one_keep B _ (by decide)).trans b5
  have c7 : C (Proc.devRef .tc main_call0_v7) = fun _ => 42#32 := (hC ▸ one_keep B _ (by decide)).trans b7
  have c2 : C (Proc.devRef .tc main_call0_v2) = fun _ => FloatOps.ofBits .f32 0x00000000#32 := (hC ▸ one_keep B _ (by decide)).trans b2
  have c3 : C (Proc.devRef .tc main_call0_v3) = fun _ => FloatOps.ofBits .f32 0x3F800000#32 := (hC ▸ one_keep B _ (by decide)).trans b3
  have c0 : C (Proc.devRef .tc main_arg0) = V (Proc.devRef .tc main_arg0) := (hC ▸ one_keep B _ (by decide)).trans b0
  have c1 : C (Proc.devRef .tc main_call0_call0_v1) = fun _ => 466689008#32 := (hC ▸ one_keep B _ (by decide)).trans b1
  have cx : C (Proc.devRef .tc main_call0_call0_v35) = fun j => (Hash.group1 (Hash.start (place j))).1 := hC ▸ one_fst B _ bx by' b5 b7 b1
  have cy : C (Proc.devRef .tc main_call0_call0_v39) = fun j => (Hash.group1 (Hash.start (place j))).2 := hC ▸ one_snd B _ bx by' b5 b7 b1
  have d5 : D (Proc.devRef .tc main_call0_v5) = fun _ => 0#32 := (hD ▸ two_keep C _ (by decide)).trans c5
  have d7 : D (Proc.devRef .tc main_call0_v7) = fun _ => 42#32 := (hD ▸ two_keep C _ (by decide)).trans c7
  have d2 : D (Proc.devRef .tc main_call0_v2) = fun _ => FloatOps.ofBits .f32 0x00000000#32 := (hD ▸ two_keep C _ (by decide)).trans c2
  have d3 : D (Proc.devRef .tc main_call0_v3) = fun _ => FloatOps.ofBits .f32 0x3F800000#32 := (hD ▸ two_keep C _ (by decide)).trans c3
  have d0 : D (Proc.devRef .tc main_arg0) = V (Proc.devRef .tc main_arg0) := (hD ▸ two_keep C _ (by decide)).trans c0
  have d1 : D (Proc.devRef .tc main_call0_call0_v1) = fun _ => 466689008#32 := (hD ▸ two_keep C _ (by decide)).trans c1
  have dx : D (Proc.devRef .tc main_call0_call0_v69) = fun j => (Hash.group2 (Hash.group1 (Hash.start (place j)))).1 := hD ▸ two_fst C _ cx cy c5 c7 c1
  have dy : D (Proc.devRef .tc main_call0_call0_v73) = fun j => (Hash.group2 (Hash.group1 (Hash.start (place j)))).2 := hD ▸ two_snd C _ cx cy c5 c7 c1
  have e5 : E (Proc.devRef .tc main_call0_v5) = fun _ => 0#32 := (hE ▸ three_keep D _ (by decide)).trans d5
  have e7 : E (Proc.devRef .tc main_call0_v7) = fun _ => 42#32 := (hE ▸ three_keep D _ (by decide)).trans d7
  have e2 : E (Proc.devRef .tc main_call0_v2) = fun _ => FloatOps.ofBits .f32 0x00000000#32 := (hE ▸ three_keep D _ (by decide)).trans d2
  have e3 : E (Proc.devRef .tc main_call0_v3) = fun _ => FloatOps.ofBits .f32 0x3F800000#32 := (hE ▸ three_keep D _ (by decide)).trans d3
  have e0 : E (Proc.devRef .tc main_arg0) = V (Proc.devRef .tc main_arg0) := (hE ▸ three_keep D _ (by decide)).trans d0
  have e1 : E (Proc.devRef .tc main_call0_call0_v1) = fun _ => 466689008#32 := (hE ▸ three_keep D _ (by decide)).trans d1
  have ex : E (Proc.devRef .tc main_call0_call0_v103) = fun j => (Hash.group3 (Hash.group2 (Hash.group1 (Hash.start (place j))))).1 := hE ▸ three_fst D _ dx dy d5 d7 d1
  have ey : E (Proc.devRef .tc main_call0_call0_v107) = fun j => (Hash.group3 (Hash.group2 (Hash.group1 (Hash.start (place j))))).2 := hE ▸ three_snd D _ dx dy d5 d7 d1
  have g5 : G (Proc.devRef .tc main_call0_v5) = fun _ => 0#32 := (hG ▸ four_keep E _ (by decide)).trans e5
  have g7 : G (Proc.devRef .tc main_call0_v7) = fun _ => 42#32 := (hG ▸ four_keep E _ (by decide)).trans e7
  have g2 : G (Proc.devRef .tc main_call0_v2) = fun _ => FloatOps.ofBits .f32 0x00000000#32 := (hG ▸ four_keep E _ (by decide)).trans e2
  have g3 : G (Proc.devRef .tc main_call0_v3) = fun _ => FloatOps.ofBits .f32 0x3F800000#32 := (hG ▸ four_keep E _ (by decide)).trans e3
  have g0 : G (Proc.devRef .tc main_arg0) = V (Proc.devRef .tc main_arg0) := (hG ▸ four_keep E _ (by decide)).trans e0
  have g1 : G (Proc.devRef .tc main_call0_call0_v1) = fun _ => 466689008#32 := (hG ▸ four_keep E _ (by decide)).trans e1
  have gx : G (Proc.devRef .tc main_call0_call0_v137) = fun j => (Hash.group4 (Hash.group3 (Hash.group2 (Hash.group1 (Hash.start (place j)))))).1 := hG ▸ four_fst E _ ex ey e5 e7 e1
  have gy : G (Proc.devRef .tc main_call0_call0_v141) = fun j => (Hash.group4 (Hash.group3 (Hash.group2 (Hash.group1 (Hash.start (place j)))))).2 := hG ▸ four_snd E _ ex ey e5 e7 e1
  have h2 : H (Proc.devRef .tc main_call0_v2) = fun _ => FloatOps.ofBits .f32 0x00000000#32 := (hH ▸ five_keep G _ (by decide)).trans g2
  have h3 : H (Proc.devRef .tc main_call0_v3) = fun _ => FloatOps.ofBits .f32 0x3F800000#32 := (hH ▸ five_keep G _ (by decide)).trans g3
  have h0 : H (Proc.devRef .tc main_arg0) = V (Proc.devRef .tc main_arg0) := (hH ▸ five_keep G _ (by decide)).trans g0
  have hx : H (Proc.devRef .tc main_call0_v19_0) = fun j => (Hash.group5 (Hash.group4 (Hash.group3 (Hash.group2 (Hash.group1 (Hash.start (place j))))))).1 := hH ▸ five_fst G _ gx gy g5 g7 g1
  have hy : H (Proc.devRef .tc main_call0_v19_1) = fun j => (Hash.group5 (Hash.group4 (Hash.group3 (Hash.group2 (Hash.group1 (Hash.start (place j))))))).2 := hH ▸ five_snd G _ gx gy g5 g7 g1
  rw [pick_val _ _ (score_val H _ hx hy h2 h3), h0]
  rfl

/-- The argument keeps its contents. -/
theorem ops_arg (V : Valuation τ sig (Elt F)) : after ops V (Proc.devRef .tc main_arg0) = V (Proc.devRef .tc main_arg0) := by
  unfold ops
  simp only [StableHlo.after_append]
  rw [pick_keep _ _ (by decide), score_keep _ _ (by decide), five_keep _ _ (by decide), four_keep _ _ (by decide),
    three_keep _ _ (by decide), two_keep _ _ (by decide), one_keep _ _ (by decide), start_keep _ _ (by decide),
    key_keep _ _ (by decide)]

/-- The reference's run: the result is the one-hot rows, the argument is as it was, and no semaphore has a count. -/
theorem run (m : (ℓ : Loc nD τ sig) → Buf (Elt F) ℓ) (ρ : Dev nD → PrngReg) :
    θ_run defs (onTc (τ := τ) (main (F := F))) ⟨m, fun _ => 0, ρ⟩ (fun r => (∀ c : Dev nD, r.2.mem (c.tc.loc main_arg0) = m (c.tc.loc main_arg0)
      ∧ r.2.mem (c.tc.loc main_v21) = refHot (m (c.tc.loc main_arg0))) ∧ r.2.sem = fun _ => 0) := by
  refine (θ_run _ _ _).mono (fun r h => ⟨fun c => ⟨?_, ?_⟩, Idealize.ShloMosaic.sem_eq_zero_of_no_sems (by decide) r.2⟩)
    (run_seq no_scoped no_scoped_sems defs main (fun _ => ops) main_eq (fun _ => ops_sub) m ρ fun _ => ops_fresh)
  · exact (h c main_arg0).trans (ops_arg _)
  · exact (h c main_v21).trans (ops_hot _)

end Cert.Proof.Ref
-- ==== Proof.Best.lean ====
/-
  The first position of the greatest of a row of extended reals: what a scan in any order that keeps the earlier of two equal
  positions ends with, and what a scan block by block ends with, is one and the same position.
-/
module

public import Mathlib.Data.EReal.Basic
public import Mathlib.Data.Finset.Fold
public import Mathlib.Data.Finset.Lattice.Fold
public import Idealize.ShloMosaic.PureOps.Reduce

@[expose] public section

namespace Cert.Proof.Best

/-- `M` is the greatest of `f` over the positions in `P` and `i` the first position that has it; before any position is seen,
    and while all that were seen are `-∞`, `i` may be zero. -/
structure First (P : ℕ → Prop) (f : ℕ → EReal) (M : EReal) (i : ℕ) : Prop where
  le : ∀ k, P k → f k ≤ M
  first : ∀ k, P k → f k = M → i ≤ k
  mem : (P i ∧ f i = M) ∨ (M = ⊥ ∧ i = 0)

theorem First.start (f : ℕ → EReal) : First (fun _ => False) f ⊥ 0 :=
  ⟨fun _ h => h.elim, fun _ h => h.elim, .inr ⟨rfl, rfl⟩⟩

theorem First.congr {P Q : ℕ → Prop} {f : ℕ → EReal} {M : EReal} {i : ℕ} (h : First P f M i) (e : ∀ k, P k ↔ Q k) :
    First Q f M i :=
  ⟨fun k hk => h.le k ((e k).mpr hk), fun k hk => h.first k ((e k).mpr hk),
    h.mem.imp (fun x => ⟨(e i).mp x.1, x.2⟩) id⟩

/-- One more position, taken where its value is greater or equal at an earlier position. -/
theorem First.insert {P : ℕ → Prop} {f : ℕ → EReal} {M : EReal} {i : ℕ} (h : First P f M i) (k : ℕ) :
    First (fun x => P x ∨ x = k) f (if f k < M then M else f k)
      (if f k < M ∨ (M = f k ∧ i < k) then i else k) := by
  by_cases h1 : f k < M
  · rw [if_pos h1, if_pos (.inl h1)]
    refine ⟨fun x hx => ?_, fun x hx e => ?_, h.mem.imp (fun y => ⟨.inl y.1, y.2⟩) id⟩
    · rcases hx with hx | rfl
      · exact h.le x hx
      · exact h1.le
    · rcases hx with hx | rfl
      · exact h.first x hx e
      · exact absurd e h1.ne
  · have h1' : M ≤ f k := not_lt.mp h1
    rw [if_neg h1]
    by_cases h2 : M = f k ∧ i < k
    · rw [if_pos (.inr h2), ← h2.1]
      refine ⟨fun x hx => ?_, fun x hx e => ?_, h.mem.imp (fun y => ⟨.inl y.1, y.2⟩) id⟩
      · rcases hx with hx | rfl
        · exact h.le x hx
        · exact h2.1.ge
      · rcases hx with hx | rfl
        · exact h.first x hx e
        · exact h2.2.le
    · rw [if_neg (by rintro (h | h); exacts [h1 h, h2 h])]
      refine ⟨fun x hx => ?_, fun x hx e => ?_, .inl ⟨.inr rfl, rfl⟩⟩
      · rcases hx with hx | rfl
        · exact (h.le x hx).trans h1'
        · exact le_rfl
      · rcases hx with hx | rfl
        · have hM : M = f k := le_antisymm h1' (e ▸ h.le x hx)
          have hi : ¬ i < k := fun hi => h2 ⟨hM, hi⟩
          have := h.first x hx (e.trans hM.symm)
          omega
        · exact le_rfl

/-- One more block of positions, all later: its greatest `m` at its first position `a` taken where `m` is greater. -/
theorem First.block {n l : ℕ} {f : ℕ → EReal} {M m : EReal} {i a : ℕ} (h : First (· < n) f M i)
    (hm : ∀ k, k < l → f (n + k) ≤ m) (ha : M < m → (∃ k, k < l ∧ a = n + k ∧ f a = m) ∧ ∀ k, k < l → f (n + k) = m → a ≤ n + k) :
    First (· < n + l) f (if M < m then m else M) (if M < m then a else i) := by
  by_cases h1 : M < m
  · rw [if_pos h1, if_pos h1]
    obtain ⟨⟨k0, hk0, e0, e1⟩, hf⟩ := ha h1
    refine ⟨fun k hk => ?_, fun k hk e => ?_, .inl ⟨by show a < n + l; omega, e1⟩⟩
    · by_cases hkn : k < n
      · exact (h.le k hkn).trans h1.le
      · have := hm (k - n) (by show k - n < l; have : k < n + l := hk; omega)
        rwa [Nat.add_sub_cancel' (not_lt.mp hkn)] at this
    · by_cases hkn : k < n
      · exact absurd e (lt_of_le_of_lt (h.le k hkn) h1).ne
      · have hk' : k < n + l := hk
        have e' := Nat.add_sub_cancel' (not_lt.mp hkn)
        have := hf (k - n) (by omega) (by rw [e']; exact e)
        omega
  · rw [if_neg h1, if_neg h1]
    refine ⟨fun k hk => ?_, fun k hk e => ?_, h.mem.imp (fun x => ⟨by have : i < n := x.1; show i < n + l; omega, x.2⟩) id⟩
    · by_cases hkn : k < n
      · exact h.le k hkn
      · have := hm (k - n) (by show k - n < l; have : k < n + l := hk; omega)
        rw [Nat.add_sub_cancel' (not_lt.mp hkn)] at this
        exact this.trans (not_lt.mp h1)
    · by_cases hkn : k < n
      · exact h.first k hkn e
      · rcases h.mem with x | x
        · have : i < n := x.1
          omega
        · omega

/-- More positions whose values are all `-∞`. -/
theorem First.pad {n l : ℕ} {f : ℕ → EReal} {M : EReal} {i : ℕ} (h : First (· < n) f M i) (hb : ∀ k, n ≤ k → f k = ⊥) (hl : n ≤ l) :
    First (· < l) f M i := by
  refine ⟨fun k hk => ?_, fun k hk e => ?_, h.mem.imp (fun x => ⟨lt_of_lt_of_le x.1 hl, x.2⟩) id⟩
  · by_cases hkn : k < n
    · exact h.le k hkn
    · rw [hb k (not_lt.mp hkn)]; exact bot_le
  · by_cases hkn : k < n
    · exact h.first k hkn e
    · rcases h.mem with x | x
      · exact (lt_of_lt_of_le x.1 (not_lt.mp hkn)).le
      · omega

/-- The first position is one: two scans of the same positions end with the same one. -/
theorem First.unique {n : ℕ} {f : ℕ → EReal} {M M' : EReal} {i i' : ℕ} (h0 : 0 < n) (h : First (· < n) f M i)
    (h' : First (· < n) f M' i') : i = i' := by
  have e : M = M' := by
    apply le_antisymm
    · rcases h.mem with x | x
      · exact x.2 ▸ h'.le i x.1
      · exact x.1 ▸ bot_le
    · rcases h'.mem with x | x
      · exact x.2 ▸ h.le i' x.1
      · exact x.1 ▸ bot_le
  subst e
  have key : ∀ {a b : ℕ}, First (· < n) f M a → First (· < n) f M b → a ≤ b := fun {a b} ha hb => by
    rcases hb.mem with x | x
    · exact ha.first b x.1 x.2
    · have : f 0 = M := le_antisymm (ha.le 0 h0) (x.1 ▸ bot_le)
      rw [x.2]
      exact ha.first 0 h0 this
  exact le_antisymm (key h h') (key h' h)

open Idealize.ShloMosaic in
/-- The least of words that are all below 2^31, from the largest of them: it is one of them and none is less. -/
theorem fold_least {n : ℕ} (g : Fin n → BitVec 32) (hg : ∀ k, (g k).toNat < 2147483648) (s : Finset (Fin n)) :
    (s.fold IntOp.minsi 2147483647#32 g = 2147483647#32 ∨ ∃ k ∈ s, s.fold IntOp.minsi 2147483647#32 g = g k)
      ∧ (s.fold IntOp.minsi 2147483647#32 g).toNat < 2147483648
      ∧ ∀ k ∈ s, (s.fold IntOp.minsi 2147483647#32 g).toNat ≤ (g k).toNat := by
  induction s using Finset.induction_on with
  | empty => exact ⟨.inl (Finset.fold_empty ..), by rw [Finset.fold_empty]; decide, fun k hk => absurd hk (Finset.notMem_empty k)⟩
  | insert a s ha ih =>
    rw [Finset.fold_insert ha]
    obtain ⟨h1, h2, h3⟩ := ih
    generalize s.fold IntOp.minsi 2147483647#32 g = r at *
    have hga := hg a
    have hs : (g a).slt r = decide ((g a).toNat < r.toNat) := by
      rw [BitVec.slt_eq_decide, BitVec.toInt_eq_toNat_of_lt (by omega), BitVec.toInt_eq_toNat_of_lt (by omega)]
      simp
    unfold IntOp.minsi
    rw [hs]
    by_cases hlt : (g a).toNat < r.toNat
    · rw [if_pos (by simpa using hlt)]
      refine ⟨.inr ⟨a, Finset.mem_insert_self a s, rfl⟩, hga, fun k hk => ?_⟩
      rcases Finset.mem_insert.mp hk with rfl | hk
      · exact le_rfl
      · exact hlt.le.trans (h3 k hk)
    · rw [if_neg (by simpa using hlt)]
      refine ⟨h1.imp id fun ⟨k, hk, e⟩ => ⟨k, Finset.mem_insert_of_mem hk, e⟩, h2, fun k hk => ?_⟩
      rcases Finset.mem_insert.mp hk with rfl | hk
      · exact not_lt.mp hlt
      · exact h3 k hk

end Cert.Proof.Best
-- ==== Proof.RefBest.lean ====
/-
  The position the reference picks in a row is the first position of the row's greatest score.
-/
module

public import proofs.«01_k».proof.Proof.RefScore
public import proofs.«01_k».proof.Proof.Best
public import Idealize.ShloMosaic.PureOps.Ideal.Laws
public import Idealize.ShloMosaic.Lib.Pointwise.Reduce

@[expose] public section

set_option maxRecDepth 16384

noncomputable section

namespace Cert.Proof.Ref

open Cert.ReferenceIdeal Cert.ReferenceIdeal.Gen
open Idealize.ShloMosaic Idealize.ShloMosaic.TcCoe

/-- The index of row `r` and column `k`. -/
def cell (r : Fin 128) (k : ℕ) (h : k < 100000) : S128x100000.Idx := fun a => match a with
  | ⟨0, _⟩ => r
  | ⟨1, _⟩ => ⟨k, h⟩

theorem cell_eta (i : S128x100000.Idx) : cell (i 0) (i 1).val (i 1).isLt = i := by
  funext a
  match a with
  | ⟨0, _⟩ => rfl
  | ⟨1, _⟩ => rfl

/-- A row of an array of extended reals, `-∞` past its end. -/
def row (x : Vec Ideal S128x100000 .f32) (r : Fin 128) (k : ℕ) : EReal := if h : k < 100000 then x (cell r k h) else ⊥

theorem row_idx (x : Vec Ideal S128x100000 .f32) (i : S128x100000.Idx) : row x (i 0) (i 1).val = x i := by
  have h : (i 1).val < 100000 := (i 1).isLt
  unfold row
  rw [dif_pos h, cell_eta]

theorem bits_neg_inf : Ideal.ofBits .f32 0xFF800000#32 = ⊥ := by simp [Ideal.ofBits, Ideal.ieee]

/-- The reference's comparison of two pairs, spelled on the extended reals and the positions. -/
theorem reducer_eq (M v : EReal) (i k : ℕ) (hi : i < 100000) (hk : k < 100000) :
    reducer_argmax_f32_i32 (F := Ideal) (M, BitVec.ofNat 32 i) (v, BitVec.ofNat 32 k)
      = ((if v < M then M else v : EReal), BitVec.ofNat 32 (if v < M ∨ (M = v ∧ i < k) then i else k)) := by
  have hs : (BitVec.ofNat 32 i).slt (BitVec.ofNat 32 k) = decide (i < k) := by
    rw [BitVec.slt_eq_decide, BitVec.toInt_eq_toNat_of_lt (by simp only [BitVec.toNat_ofNat]; omega),
      BitVec.toInt_eq_toNat_of_lt (by simp only [BitVec.toNat_ofNat]; omega)]
    simp only [BitVec.toNat_ofNat]
    congr 1
    rw [Nat.mod_eq_of_lt (by omega), Nat.mod_eq_of_lt (by omega)]
    simp
  unfold reducer_argmax_f32_i32
  simp only [Ideal.cmpf_def, Ideal.cmp, IntOp.ori, IntOp.andi, IntOp.cmpi, Scalar.select, hs]
  by_cases h1 : v < M
  · have hb : ∀ c : BitVec 1, (1#1 ||| 0#1 ||| c) = 1#1 := by decide
    simp [h1]
    intro hc
    exact absurd (hb _) hc
  · by_cases h2 : M = v
    · by_cases h3 : i < k
      · simp [h2, h3]
      · simp [h2, h3]
    · simp [h1, h2]

theorem scan (x : Vec Ideal S128x100000 .f32) (r : Fin 128) (L : List S128x100000.Idx) (hL : ∀ i ∈ L, i 0 = r)
    (P : ℕ → Prop) (M : EReal) (i : ℕ) (hi : i < 100000) (h : Best.First P (row x r) M i) :
    ∃ M' i', i' < 100000 ∧ (L.map fun n => (x n, (iotaInDim S128x100000 32 1 n : BitVec 32))).foldl (reducer_argmax_f32_i32 (F := Ideal)) (M, BitVec.ofNat 32 i)
        = (M', BitVec.ofNat 32 i')
      ∧ Best.First (fun k => P k ∨ ∃ n ∈ L, (n 1).val = k) (row x r) M' i' := by
  induction L generalizing P M i with
  | nil => exact ⟨M, i, hi, rfl, h.congr fun k => by simp⟩
  | cons n L ih =>
    have hn : (n 1).val < 100000 := (n 1).isLt
    have hr : n 0 = r := hL n List.mem_cons_self
    have hx : x n = row x r (n 1).val := by rw [← hr, row_idx]
    have h' := h.insert (n 1).val
    rw [List.map_cons, List.foldl_cons]
    have e := reducer_eq M (x n) i (n 1).val hi hn
    rw [← hx] at h'
    obtain ⟨M', i', hi', e', f'⟩ := ih (fun j hj => hL j (List.mem_cons_of_mem _ hj)) _ _ _ (by split <;> assumption) h'
    refine ⟨M', i', hi', ?_, f'.congr fun k => ?_⟩
    · rw [← e', ← e]
      rfl
    · simp only [List.mem_cons, exists_eq_or_imp]
      constructor
      · rintro ((h | h) | h)
        exacts [.inl h, .inr (.inl h.symm), .inr (.inr h)]
      · rintro (h | h | h)
        exacts [.inl (.inl h), .inl (.inr h.symm), .inr h]

/-- The pairs a reduction folds over are those of the indices that drop to the result's, in some order. -/
theorem fiber_list {s t : Shape} {axes : List (Fin s.rank)} (h : s.ReducesTo axes t) (j : t.Idx) :
    ∃ L : List s.Idx, (∀ i, i ∈ L ↔ h.drop i = j)
      ∧ ∀ {α β : Type} (x : s.Idx → α) (y : s.Idx → β), Host.argReduceFiber x y h j = L.map fun n => (x n, y n) := by
  refine ⟨((List.finRange s.numel).filter fun n => h.drop (s.rowMajor.symm n) = j).map s.rowMajor.symm, fun i => ?_, fun x y => ?_⟩
  · simp only [List.mem_map, List.mem_filter, List.mem_finRange, true_and, decide_eq_true_eq]
    constructor
    · rintro ⟨n, hn, rfl⟩
      exact hn
    · intro hi
      exact ⟨s.rowMajor i, by rw [Equiv.symm_apply_apply]; exact hi, Equiv.symm_apply_apply _ _⟩
  · unfold Host.argReduceFiber
    rw [List.map_map]
    rfl

/-- The indices that drop to row `r` are those of the row. -/
theorem drop_row (r : Fin 128) (i : S128x100000.Idx) : reducesTo_S128x100000_S128_d1.drop i = posIx r ↔ i 0 = r := by
  constructor
  · intro hn
    obtain ⟨k, hk⟩ := (Shape.ReducesTo.fiber_r2_a1 _ _ _).mp hn
    rw [← hk]
    rfl
  · intro hi
    refine (Shape.ReducesTo.fiber_r2_a1 _ _ _).mpr ⟨i 1, ?_⟩
    funext a
    match a with
    | ⟨0, _⟩ => exact hi.symm
    | ⟨1, _⟩ => rfl

/-- A reduction of pairs is the fold of its body over those pairs. -/
theorem argReduce_list {s t u : Shape} {axes : List (Fin s.rank)} (f : EReal × BitVec 32 → EReal × BitVec 32 → EReal × BitVec 32)
    (x : s.Idx → EReal) (y : s.Idx → BitVec 32) (a : EReal) (b : BitVec 32) (ix : u.Idx → EReal) (iy : u.Idx → BitVec 32)
    (ha : ix = fun _ => a) (hb : iy = fun _ => b) (h : s.ReducesTo axes t) (hu : 0 < u.numel) (j : t.Idx) :
    ∃ L : List s.Idx, (∀ i, i ∈ L ↔ h.drop i = j)
      ∧ Host.argReduce (F := Ideal) (φ := .f32) f x y ix iy h hu j = (L.map fun n => (x n, y n)).foldl f (a, b) := by
  obtain ⟨L, hL, hf⟩ := fiber_list h j
  refine ⟨L, hL, ?_⟩
  rw [Ideal.argReduce_eq_reduce2, Host.reduce2_eq_foldl_fiber, hf, ha, hb]

/-- The pair the reference picks is the fold over the row's indices in some order. -/
theorem refPick_list (x : Vec Ideal S128x100000 .f32) (r : Fin 128) :
    ∃ L : List S128x100000.Idx, (∀ i, i ∈ L ↔ i 0 = r)
      ∧ refPick x (posIx r) = (L.map fun n => (x n, (iotaInDim S128x100000 32 1 n : BitVec 32))).foldl
          (reducer_argmax_f32_i32 (F := Ideal)) ((⊥ : EReal), 0#32) := by
  obtain ⟨L, hL, hf⟩ := argReduce_list (reducer_argmax_f32_i32 (F := Ideal)) x (iotaInDim S128x100000 32 1) ⊥ 0#32
    (constant (F := Ideal) S_ .f32 0xFF800000#32) (constantI S_ 32 0#32) (funext fun _ => bits_neg_inf) rfl
    reducesTo_S128x100000_S128_d1 h_S_ (posIx r)
  exact ⟨L, fun i => (hL i).trans (drop_row r i), (congrFun (refPick_eq x) (posIx r)).trans hf⟩

/-- What the reference picks in row `r`. -/
theorem refIdx_first (x : Vec Ideal S128x100000 .f32) (r : Fin 128) :
    ∃ M i, i < 100000 ∧ refIdx x (posIx r) = BitVec.ofNat 32 i ∧ Best.First (· < 100000) (row x r) M i := by
  obtain ⟨L, hmem, he⟩ := refPick_list x r
  obtain ⟨M', i', hi', e', f'⟩ := scan x r L (fun i hi => (hmem i).mp hi) _ _ 0 (by decide) (Best.First.start _)
  refine ⟨M', i', hi', refIdx_of_pick x (posIx r) M' _ (he.trans e'), f'.congr fun k => ?_⟩
  constructor
  · rintro (h | ⟨n, hn, rfl⟩)
    · exact h.elim
    · exact (n 1).isLt
  · intro hk
    exact .inr ⟨cell r k hk, (hmem _).mpr rfl, rfl⟩

end Cert.Proof.Ref
-- ==== Proof.Units.lean ====
/-
  The uniform number over the reals: the float made of the random word's high bits is in `[1, 2)`, so the reference's scaling by
  one, shift by zero and bound by zero change nothing, and both programs form the same score.
-/
module

public import proofs.«01_k».proof.Proof.RefBest
public import Idealize.ShloMosaic.Lib.IdealHost

@[expose] public section

set_option maxRecDepth 16384

noncomputable section

namespace Cert.Proof.Ref

open Idealize.ShloMosaic Idealize.ShloMosaic.TcCoe

/-- The float's bits as a number: the exponent field of one, and the word's high bits. -/
theorem unitBits_toNat (n : BitVec 32) : ∃ w, w < 8388608 ∧ (Hash.unitBits n).toNat = 8388608 * 127 + w := by
  refine ⟨(Hash.word n).toNat / 512, ?_, ?_⟩
  · have := (Hash.word n).isLt
    omega
  · have h : (Hash.word n).toNat / 512 < 2 ^ 23 := by
      have := (Hash.word n).isLt
      omega
    unfold Hash.unitBits
    rw [BitVec.toNat_or, BitVec.toNat_ushiftRight, Nat.shiftRight_eq_div_pow, Nat.or_comm]
    exact (Nat.two_pow_add_eq_or_of_lt h 127).symm

theorem one_le_unit (n : BitVec 32) : (1 : EReal) ≤ Ideal.ofBits .f32 (Hash.unitBits n) := by
  obtain ⟨w, hw, h⟩ := unitBits_toNat n
  have hneg : ((Hash.unitBits n).extractLsb' (8 + 23) 1 == 1#1) = false := by
    rw [beq_eq_false_iff_ne]
    intro e
    have := congrArg BitVec.toNat e
    rw [BitVec.extractLsb'_toNat, h, Nat.shiftRight_eq_div_pow] at this
    simp only [BitVec.toNat_ofNat] at this
    omega
  have hex : ((Hash.unitBits n).extractLsb' 23 8).toNat = 127 := by
    rw [BitVec.extractLsb'_toNat, h, Nat.shiftRight_eq_div_pow]
    omega
  have hfr : ((Hash.unitBits n).extractLsb' 0 23).toNat = w := by
    rw [BitVec.extractLsb'_toNat, h, Nat.shiftRight_eq_div_pow]
    omega
  show (1 : EReal) ≤ Ideal.ieee 8 23 (Hash.unitBits n)
  unfold Ideal.ieee
  simp only [hneg, hex, hfr]
  rw [if_neg (by norm_num), if_neg (by norm_num)]
  rw [show (1 : EReal) = ((1 : ℝ) : EReal) by norm_cast]
  refine EReal.coe_le_coe_iff.mpr ?_
  have hw0 : (0 : ℝ) ≤ (w : ℝ) := Nat.cast_nonneg w
  norm_num
  nlinarith

/-- The reference's uniform number is the float less one. -/
theorem refUnit_eq (n : BitVec 32) :
    refUnit (F := Ideal) (Hash.unitBits n) = (Ideal.ofBits .f32 (Hash.unitBits n) - 1 : EReal) := by
  have h := one_le_unit n
  unfold refUnit
  simp only [Ideal.ofBits_def, Ideal.addf_def, Ideal.subf_def, Ideal.mulf_def, Ideal.maximumf_def, Ideal.ofBits_zero_f32,
    Ideal.ofBits_one_f32]
  generalize Ideal.ofBits .f32 (Hash.unitBits n) = z at *
  have h0 : (0 : EReal) ≤ z - 1 := by
    refine (EReal.sub_nonneg (x := z) (y := 1) (.inr (EReal.coe_ne_top 1)) (.inr (EReal.coe_ne_bot 1))).mpr ?_
    exact h
  rw [sub_zero, mul_one, add_zero]
  exact max_eq_right h0

end Cert.Proof.Ref
-- ==== Proof.KernelBest.lean ====
/-
  The position the kernel's first call picks in a row is the first position of the row's greatest score: block by block the
  running best is the first best of the columns seen.
-/
module

public import proofs.«01_k».proof.Proof.KernelHash
public import proofs.«01_k».proof.Proof.Launch
public import proofs.«01_k».proof.Proof.Units

@[expose] public section

set_option maxRecDepth 16384

noncomputable section

namespace Cert.Proof.Run

open Cert.KernelIdeal Cert.KernelIdeal.Gen
open Idealize.ShloMosaic Idealize.ShloMosaic.TcCoe

/-- The scores of a table of probabilities, row by row, `-∞` past the end. -/
abbrev rowScore (p : Vec Ideal S128x100000 .f32) (r : Fin 128) (k : ℕ) : EReal := Ref.row (Ref.refScores (F := Ideal) p) r k

/-- The kernel's arithmetic from the float's bits to the score. -/
theorem score_arith (b : BitVec 32) (v : BitVec 1) (p : EReal)
    (hu : Ref.refUnit (F := Ideal) b = (Ideal.ofBits .f32 b - 1 : EReal)) :
    Scalar.select v (FloatOps.addf (F := Ideal) (φ := .f32)
      (FloatOps.subf (FloatOps.ofBits .f32 0x00000000#32) (FloatOps.log (FloatOps.subf (FloatOps.ofBits .f32 0x00000000#32)
        (FloatOps.log (FloatOps.maximumf (FloatOps.ofBits .f32 0x00800000#32)
          (FloatOps.addf (FloatOps.mulf (FloatOps.subf (FloatOps.ofBits .f32 b) (FloatOps.ofBits .f32 0x3F800000#32))
            (FloatOps.ofBits .f32 0x3F800000#32)) (FloatOps.ofBits .f32 0x00800000#32))))))) (FloatOps.log p))
        (FloatOps.ofBits .f32 0xFF800000#32)
      = if v = 1#1 then Ref.refScore (F := Ideal) (Ref.refUnit b) p else (⊥ : EReal) := by
  unfold Ref.refScore
  rw [hu]
  simp only [Scalar.select, Ideal.ofBits_def, Ideal.addf_def, Ideal.subf_def, Ideal.mulf_def, Ideal.maximumf_def,
    Ideal.log_def, Ideal.hostUnary_log_def, Ideal.ofBits_zero_f32, Ideal.ofBits_one_f32, Ref.bits_neg_inf, zero_sub]
  rfl

/-- The float payload at a lane. -/
theorem pay51_lane {F : FTy → Type} [FloatOps F] (v12 : IVec S128x2048 1) (v174 v175 v177 : IVec S128x2048 32)
    (x : Vec F S128x2048 .f32) (y : S128x2048.Idx) (b : BitVec 32)
    (hb : ((v175 y + 466689008#32) ^^^ (((v177 y ||| (v174 y >>> 26)) ^^^ v175 y) + 0#32 + 5#32)) >>> 9 ||| 1065353216#32 = b) :
    k0_pay51 v12 v174 v175 v177 26#32 x y
      = Scalar.select (v12 y) (FloatOps.addf (F := F) (φ := .f32)
      (FloatOps.subf (FloatOps.ofBits .f32 0x00000000#32) (FloatOps.log (FloatOps.subf (FloatOps.ofBits .f32 0x00000000#32)
        (FloatOps.log (FloatOps.maximumf (FloatOps.ofBits .f32 0x00800000#32)
          (FloatOps.addf (FloatOps.mulf (FloatOps.subf (FloatOps.ofBits .f32 b) (FloatOps.ofBits .f32 0x3F800000#32))
            (FloatOps.ofBits .f32 0x3F800000#32)) (FloatOps.ofBits .f32 0x00800000#32))))))) (FloatOps.log (x y)))
        (FloatOps.ofBits .f32 0xFF800000#32) := by
  subst hb
  rfl

/-- The score of a lane of block `t`. -/
theorem score_lane (t : Fin grid0.N) (x : Vec Ideal S128x2048 .f32) (p : Vec Ideal S128x100000 .f32) (y : S128x2048.Idx)
    (hx : ∀ h : (y 1).val + 2048 * t.val < 100000, x y = p (Ref.cell (y 0) ((y 1).val + 2048 * t.val) h)) :
    score (F := Ideal) (grid0.coords t) x y = rowScore p (y 0) (2048 * t.val + (y 1).val) := by
  have hr := rounds (grid0.coords t) y _ (place_lane t y)
  rw [Nat.add_comm (2048 * t.val)]
  have hv := valid_iff t y
  generalize hn : BitVec.ofNat 32 (100000 * (y 0).val + ((y 1).val + 2048 * t.val)) = n at hr
  have hb : (((hash (grid0.coords t)).2.1 y + 466689008#32) ^^^ ((((hash (grid0.coords t)).2.2 y ||| ((hash (grid0.coords t)).1 y >>> 26))
      ^^^ (hash (grid0.coords t)).2.1 y) + 0#32 + 5#32)) >>> 9 ||| 1065353216#32 = Hash.unitBits n := by
    unfold Hash.unitBits Hash.word
    rw [hr]
  have ha := score_arith (Hash.unitBits n) (k0_pay7 (grid0.coords t) y) (x y) (Ref.refUnit_eq n)
  refine Eq.trans (pay51_lane _ _ _ _ x y _ hb) (ha.trans ?_)
  · unfold rowScore Ref.row
    by_cases h : (y 1).val + 2048 * t.val < 100000
    · rw [if_pos (hv.mpr h), dif_pos h, hx h, ← hn]
      rfl
    · rw [if_neg (fun e => h (hv.mp e)), dif_neg h]

variable (m : (ℓ : Loc nD τ sig) → Buf (Elt Ideal) ℓ)

theorem index0_1 : ∀ t : Fin grid0.N, win0_0.index t ⟨1, by decide⟩ = t.val := by decide +kernel

/-- A lane of a block reads the table at the lane's row and column. -/
theorem blkIn_lane (c : Dev nD) (t : Fin grid0.N) (y : S128x2048.Idx) (h : (y 1).val + 2048 * t.val < 100000) :
    blkIn m c t y = (m ((c : Thread nD τ).loc main_arg0) : Vec Ideal S128x100000 .f32) (Ref.cell (y 0) ((y 1).val + 2048 * t.val) h) := by
  have hm : win0_0.moved (grid0.coords t) y = true := by
    refine (win0_0.moved_iff _ y).mpr fun a => ?_
    fin_cases a
    · exact lt_of_lt_of_eq (y 0).isLt (xsize0_0 t).symm
    · refine lt_of_lt_of_eq ?_ (xsize0_1 t).symm
      have h1 : (y 1).val < 2048 := (y 1).isLt
      show (y 1).val < _
      omega
  unfold blkIn Pipeline.Window.fill
  rw [dif_pos hm]
  unfold blk0
  refine congrArg (m ((c : Thread nD τ).loc main_arg0) : Vec Ideal S128x100000 .f32) ?_
  funext a
  apply Fin.ext
  match a with
  | ⟨0, _⟩ =>
    show 0 * 128 + 1 * (y 0).val = (y 0).val
    omega
  | ⟨1, _⟩ =>
    show _ * 2048 + 1 * (y 1).val = (y 1).val + 2048 * t.val
    rw [show win0_0.index t ⟨1, by decide⟩ = t.val from index0_1 t]
    omega

end Cert.Proof.Run
-- ==== Proof.KernelPick.lean ====
/-
  The first call's blocks taken in one after another: the running best of a row is the first best of the columns seen, so at the
  end it is the first position of the row's greatest score.
-/
module

public import proofs.«01_k».proof.Proof.KernelBest
public import Idealize.ShloMosaic.Lib.ValueLayoutCasts

@[expose] public section

set_option maxRecDepth 16384

noncomputable section

namespace Cert.Proof.Run

open Cert.KernelIdeal Cert.KernelIdeal.Gen
open Idealize.ShloMosaic Idealize.ShloMosaic.TcCoe

/-- The lane of row `r` and column `k` of a block. -/
def lane (r : Fin 128) (k : Fin 2048) : S128x2048.Idx := fun a => match a with
  | ⟨0, _⟩ => r
  | ⟨1, _⟩ => k

theorem rowIx_eq (r : Fin 128) : rowIx r = ValueIdx.ix2 r (0 : Fin 1) := by
  funext a
  match a with
  | ⟨0, _⟩ => rfl
  | ⟨1, _⟩ => rfl

/-- The kernel's row maxima. -/
theorem max_row (S : FVec Ideal S128x2048 .f32) (r : Fin 128) :
    shapeCast S128x1 (multiReduction .maximumf [1] S128 S 0xFF800000#32 reduces_S128x2048_S128 (.inl rfl) rfl) shapeCasts_S128_S128x1 (rowIx r)
      = (Finset.univ : Finset (Fin 2048)).fold max (⊥ : EReal) fun k => S (lane r k) := by
  rw [rowIx_eq]
  refine (ValueIdx.shapeCast_a_a1_apply _ _ _ _).trans ?_
  refine (Ideal.multiReduction_maximumf_single S 0xFF800000#32 reduces_S128x2048_S128 (.inl rfl) rfl (ValueIdx.ix1 r)).trans ?_
  refine (congrArg (fun b => Finset.fold max b _ _) Ref.bits_neg_inf).trans ?_
  refine congrArg (fun g => Finset.fold max (⊥ : EReal) g (Finset.univ : Finset (Fin 2048))) ?_
  funext k
  refine congrArg S ?_
  funext a
  match a with
  | ⟨0, _⟩ => rfl
  | ⟨1, _⟩ => rfl

/-- The kernel's row minima of words. -/
theorem min_row (g : IVec S128x2048 32) (r : Fin 128) :
    shapeCast S128x1 (multiReductionI .minsi [1] S128 g 2147483647#32 reduces_S128x2048_S128 rfl) shapeCasts_S128_S128x1 (rowIx r)
      = (Finset.univ : Finset (Fin 2048)).fold IntOp.minsi 2147483647#32 fun k => g (lane r k) := by
  rw [rowIx_eq]
  refine (ValueIdx.shapeCast_a_a1_apply _ _ _ _).trans ?_
  refine (multiReductionI_eq_fold .minsi g 2147483647#32 reduces_S128x2048_S128 rfl (ValueIdx.ix1 r)).trans ?_
  refine (reduces_S128x2048_S128.fold_filter_drop_single _ _ g _).trans ?_
  refine congrArg (fun g => Finset.fold IntOp.minsi 2147483647#32 g (Finset.univ : Finset (Fin 2048))) ?_
  funext k
  refine congrArg g ?_
  funext a
  match a with
  | ⟨0, _⟩ => rfl
  | ⟨1, _⟩ => rfl

/-- The choice of the words that are compared: a lane's column where its score is the row's maximum. -/
theorem arg_lane (v6 : IVec S128x2048 32) (S : FVec Ideal S128x2048 .f32) (B : FVec Ideal S128x1 .f32) (r : Fin 128) (k : Fin 2048) :
    (select (cmpf .oeq S (broadcastTo S128x2048 B broadcasts_S128x1_S128x2048)) v6 (broadcast S128x2048 2147483647#32)) (lane r k)
      = if (S (lane r k) : EReal) = B (rowIx r) then v6 (lane r k) else 2147483647#32 := by
  have e : broadcastTo S128x2048 B broadcasts_S128x1_S128x2048 (lane r k) = B (rowIx r) := by
    refine congrArg B ?_
    funext a
    match a with
    | ⟨0, _⟩ => rfl
    | ⟨1, _⟩ => rfl
  show Scalar.select (FloatOps.cmpf .oeq (S (lane r k)) (broadcastTo S128x2048 B broadcasts_S128x1_S128x2048 (lane r k))) (v6 (lane r k)) 2147483647#32 = _
  rw [e, Ideal.cmpf_def]
  unfold Scalar.select Ideal.cmp
  by_cases h : (S (lane r k) : EReal) = B (rowIx r)
  · rw [if_pos h, if_pos (by simp [h])]
  · rw [if_neg h, if_neg (by simp [h])]

/-- One block taken in. -/
theorem bestStep_row (i : grid0.Coords) (x : Vec Ideal S128x2048 .f32) (s : Best Ideal) (r : Fin 128) :
    ((bestStep i x s).1 (rowIx r) : EReal) = (if (s.1 (rowIx r) : EReal) < blockMax i x (rowIx r) then (blockMax i x (rowIx r) : EReal) else s.1 (rowIx r))
      ∧ (bestStep i x s).2 (rowIx r) = (if (s.1 (rowIx r) : EReal) < blockMax i x (rowIx r) then blockArg i x (rowIx r) else s.2 (rowIx r)) := by
  unfold bestStep k0_pay3 k0_pay2 k0_pay1
  generalize blockMax i x = B
  generalize blockArg i x = A
  simp only [shapeCast_self]
  show Scalar.select (FloatOps.cmpf .ogt (B (rowIx r)) (s.1 (rowIx r))) (B (rowIx r)) (s.1 (rowIx r)) = _
    ∧ Scalar.select (FloatOps.cmpf .ogt (B (rowIx r)) (s.1 (rowIx r))) (A (rowIx r)) (s.2 (rowIx r)) = _
  rw [Ideal.cmpf_def]
  unfold Scalar.select Ideal.cmp
  by_cases h : (s.1 (rowIx r) : EReal) < B (rowIx r)
  · rw [if_pos h, if_pos h, if_pos (by simp [h]), if_pos (by simp [h])]
    exact ⟨rfl, rfl⟩
  · rw [if_neg h, if_neg h, if_neg (by simp [h]), if_neg (by simp [h])]
    exact ⟨rfl, rfl⟩

theorem blockMax_row (i : grid0.Coords) (x : Vec Ideal S128x2048 .f32) (r : Fin 128) :
    blockMax i x (rowIx r) = (Finset.univ : Finset (Fin 2048)).fold max (⊥ : EReal) fun k => score i x (lane r k) :=
  max_row (score i x) r

theorem blockArg_row (i : grid0.Coords) (x : Vec Ideal S128x2048 .f32) (r : Fin 128) :
    blockArg i x (rowIx r) = (Finset.univ : Finset (Fin 2048)).fold IntOp.minsi 2147483647#32 fun k =>
      if (score i x (lane r k) : EReal) = blockMax i x (rowIx r) then k0_pay6 i (lane r k) else 2147483647#32 := by
  refine (min_row (select (cmpf .oeq (score i x) (broadcastTo S128x2048 (blockMax i x) broadcasts_S128x1_S128x2048))
    (k0_pay6 i) (broadcast S128x2048 2147483647#32)) r).trans ?_
  refine congrArg (fun g => Finset.fold IntOp.minsi 2147483647#32 g (Finset.univ : Finset (Fin 2048))) ?_
  funext k
  exact arg_lane (k0_pay6 i) (score i x) (blockMax i x) r k

end Cert.Proof.Run
-- ==== Proof.KernelRow.lean ====
/-
  The running best of a row over all blocks: after `n` blocks it is the first best of the row's first `2048 n` scores.
-/
module

public import proofs.«01_k».proof.Proof.KernelPick
public import proofs.«01_k».proof.Proof.RefBest

@[expose] public section

set_option maxRecDepth 16384

noncomputable section

namespace Cert.Proof.Run

open Cert.KernelIdeal Cert.KernelIdeal.Gen
open Idealize.ShloMosaic Idealize.ShloMosaic.TcCoe

/-- A greatest value and the least word among the lanes that have it take a scan `l` positions on. -/
theorem first_block {f : ℕ → EReal} {M : EReal} {i n : ℕ} (h : Best.First (· < n) f M i) (S : Fin 2048 → EReal)
    (w : Fin 2048 → BitVec 32) (hS : ∀ k, S k = f (n + k.val)) (hw : ∀ k, (w k).toNat = n + k.val) (hn : n + 2048 < 2147483648)
    (m : EReal) (a : BitVec 32) (hm : m = (Finset.univ : Finset (Fin 2048)).fold max (⊥ : EReal) S)
    (ha : a = (Finset.univ : Finset (Fin 2048)).fold IntOp.minsi 2147483647#32 fun k => if S k = m then w k else 2147483647#32) :
    Best.First (· < n + 2048) f (if M < m then m else M) (if M < m then a.toNat else i) := by
  have le : ∀ k, S k ≤ m := fun k => by
    rw [hm]
    exact (Finset.le_fold_max _).mpr (.inr ⟨k, Finset.mem_univ k, le_rfl⟩)
  refine h.block (fun k hk => ?_) (fun hlt => ?_)
  · have := le ⟨k, hk⟩
    rwa [hS] at this
  · have at_m : ∃ k, S k = m := by
      have h1 : m ≤ (Finset.univ : Finset (Fin 2048)).fold max (⊥ : EReal) S := hm.le
      rcases (Finset.le_fold_max _).mp h1 with h2 | ⟨k, _, h2⟩
      · exact absurd (lt_of_lt_of_le hlt h2) not_lt_bot
      · exact ⟨k, le_antisymm (le k) h2⟩
    have hg : ∀ k : Fin 2048, (if S k = m then w k else 2147483647#32).toNat < 2147483648 := fun k => by
      have := hw k
      have := k.isLt
      split
      · omega
      · decide
    obtain ⟨h1, -, h3⟩ := Best.fold_least (fun k => if S k = m then w k else 2147483647#32) hg Finset.univ
    rw [← ha] at h1 h3
    have least : ∀ k, S k = m → a.toNat ≤ n + k.val := fun k hk => by
      have := h3 k (Finset.mem_univ k)
      rw [if_pos hk, hw] at this
      exact this
    refine ⟨?_, fun k hk e => least ⟨k, hk⟩ ((hS _).trans e)⟩
    obtain ⟨k0, hk0⟩ := at_m
    have l0 := least k0 hk0
    have := k0.isLt
    have big : a ≠ 2147483647#32 := fun e => by
      have e' : a.toNat = 2147483647 := by rw [e]; rfl
      omega
    rcases h1 with h1 | ⟨k, _, h1⟩
    · exact absurd h1 big
    · by_cases hk : S k = m
      · rw [if_pos hk] at h1
        have e : a.toNat = n + k.val := by rw [h1, hw]
        exact ⟨k.val, k.isLt, e, by rw [e, ← hS]; exact hk⟩
      · rw [if_neg hk] at h1
        exact absurd h1 big

variable (m : (ℓ : Loc nD τ sig) → Buf (Elt Ideal) ℓ)

/-- The table the kernel is given. -/
def table (c : Dev nD) : Vec Ideal S128x100000 .f32 := m ((c : Thread nD τ).loc main_arg0)

theorem best_first (c : Dev nD) (r : Fin 128) : ∀ n, n ≤ 49 →
    Best.First (· < 2048 * n) (rowScore (table m c) r) ((best m c n).1 (rowIx r)) ((best m c n).2 (rowIx r)).toNat
  | 0, _ => by
    have e1 : ((best m c 0).1 (rowIx r) : EReal) = ⊥ := by
      show (k0_pay4 (F := Ideal) (rowIx r) : EReal) = ⊥
      unfold k0_pay4
      rw [shapeCast_self]
      exact Ref.bits_neg_inf
    have e2 : (best m c 0).2 (rowIx r) = 0#32 := by
      show k0_pay5 (rowIx r) = 0#32
      unfold k0_pay5
      rw [shapeCast_self]
      rfl
    rw [e1, e2]
    exact (Best.First.start _).congr fun k => by simp
  | n + 1, hn => by
    have ih := best_first c r n (by omega)
    have hN : n < grid0.N := by rw [N_0]; omega
    have hs := best_succ m c ⟨n, hN⟩
    have hb := bestStep_row (grid0.coords ⟨n, hN⟩) (blkIn m c ⟨n, hN⟩) (best m c n) r
    rw [← hs] at hb
    have key := first_block ih (fun k => score (F := Ideal) (grid0.coords ⟨n, hN⟩) (blkIn m c ⟨n, hN⟩) (lane r k))
      (fun k => k0_pay6 (grid0.coords ⟨n, hN⟩) (lane r k))
      (fun k => score_lane ⟨n, hN⟩ _ (table m c) (lane r k) (fun h => blkIn_lane m c ⟨n, hN⟩ (lane r k) h))
      (fun k => (col_toNat ⟨n, hN⟩ (lane r k)).trans (Nat.add_comm _ _)) (by omega)
      _ _ (blockMax_row (grid0.coords ⟨n, hN⟩) (blkIn m c ⟨n, hN⟩) r)
      (blockArg_row (grid0.coords ⟨n, hN⟩) (blkIn m c ⟨n, hN⟩) r)
    rw [← hb.1, ← apply_ite BitVec.toNat, ← hb.2] at key
    exact key.congr fun k => by rw [Nat.mul_succ]

/-- The kernel's index of a row is the reference's. -/
theorem idx_row (c : Dev nD) (r : Fin 128) :
    idx m c (rowIx r) = Ref.refIdx (Ref.refScores (F := Ideal) (table m c)) (Ref.posIx r) := by
  obtain ⟨M, i, hi, e, hf⟩ := Ref.refIdx_first (Ref.refScores (F := Ideal) (table m c)) r
  have hp : Best.First (· < 2048 * 49) (rowScore (table m c) r) M i :=
    hf.pad (fun k hk => dif_neg (by omega)) (by norm_num)
  have hu := (best_first m c r 49 le_rfl).unique (by norm_num) hp
  rw [e, ← hu]
  show (best m c 49).2 (rowIx r) = _
  exact (BitVec.eq_of_toNat_eq (by rw [BitVec.toNat_ofNat, Nat.mod_eq_of_lt (BitVec.isLt _)]))

end Cert.Proof.Run
-- ==== Proof.Agree.lean ====
/-
  The one-hot rows of the two programs are equal: both compare a position with the same index and turn the answer into a float.
-/
module

public import proofs.«01_k».proof.Proof.KernelRow

@[expose] public section

set_option maxRecDepth 16384

noncomputable section

namespace Cert.Proof.Run

open Cert.KernelIdeal Cert.KernelIdeal.Gen
open Idealize.ShloMosaic Idealize.ShloMosaic.TcCoe

/-- The kernel's float of a comparison (widened, then read as a signed number) is the reference's (read as an unsigned bit). -/
theorem float_of_eq (a b : BitVec 32) :
    (FloatOps.sitofp (F := Ideal) .f32 (BitVec.setWidth 32 (IntOp.cmpi .eq a b)) : EReal)
      = FloatOps.uitofp (F := Ideal) .f32 (IntOp.cmpi .eq b a) := by
  have e : IntOp.cmpi .eq a b = IntOp.cmpi .eq b a := by
    unfold IntOp.cmpi
    simp only [BEq.comm (a := a)]
  rw [e]
  generalize IntOp.cmpi .eq b a = q
  have hq : q = 0#1 ∨ q = 1#1 := by
    revert q
    decide
  rcases hq with rfl | rfl
  · show (((BitVec.setWidth 32 0#1).toInt : ℝ) : EReal) = (((0#1 : BitVec 1).toNat : ℝ) : EReal)
    norm_num
  · show (((BitVec.setWidth 32 1#1).toInt : ℝ) : EReal) = (((1#1 : BitVec 1).toNat : ℝ) : EReal)
    norm_num

variable (m : (ℓ : Loc nD τ sig) → Buf (Elt Ideal) ℓ)

theorem hot_eq (c : Dev nD) : hotOf (F := Ideal) (idx m c) = Ref.refHot (F := Ideal) (table m c) := by
  funext j
  show FloatOps.sitofp (F := Ideal) .f32 (BitVec.setWidth 32 (IntOp.cmpi .eq (BitVec.ofNat 32 (j 1).val) (idx m c (rowIx (j 0))))) =
    FloatOps.uitofp (F := Ideal) .f32 (IntOp.cmpi .eq (Ref.refIdx (Ref.refScores (F := Ideal) (table m c)) (Ref.posIx (j 0))) (BitVec.ofNat 32 (j 1).val))
  exact (congrArg (fun a : BitVec 32 => FloatOps.sitofp (F := Ideal) .f32 (BitVec.setWidth 32 (IntOp.cmpi .eq (BitVec.ofNat 32 (j 1).val) a)))
    (idx_row m c (j 0))).trans (float_of_eq _ _)

end Cert.Proof.Run
-- ==== Proof.lean ====
/-
  The proof of `Cert.Claim`. All three programs run for every input and end with the argument unchanged and every counter at zero;
  the kernel's run and the reference's are each pinned to the array they leave behind, and the two arrays are equal over the
  extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Agree
public import proofs.«01_k».proof.Proof.KernelLaunch
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m g _ =>
  (θ_run _ _ _).mono (fun r (h : _ ∧ _) => ⟨fun c => (h.1 c).1, h.2⟩) (Cert.Proof.KernelRun.run (F := Bits) m g)

theorem frame_kernel_ideal : Cert.quiescent_KernelIdeal (hKernelIdeal := Cert.KernelIdeal.Gen.facts) := fun m g _ =>
  (θ_run _ _ _).mono (fun r (h : _ ∧ _) => ⟨fun c => (h.1 c).1, h.2⟩) (Cert.Proof.Run.run (F := Ideal) m g)

theorem frame_reference : Cert.quiescent_ReferenceIdeal (hReferenceIdeal := Cert.ReferenceIdeal.Gen.facts) := fun m g _ =>
  (θ_run _ _ _).mono (fun r (h : _ ∧ _) => ⟨fun c => (h.1 c).1, h.2⟩) (Cert.Proof.Ref.run (F := Ideal) m g)

/-- Both programs leave the one-hot rows of the first best position. -/
theorem values : Cert.algebraic_KernelIdeal_ReferenceIdeal (hKernelIdeal := Cert.KernelIdeal.Gen.facts)
    (hReferenceIdeal := Cert.ReferenceIdeal.Gen.facts) := fun m g m' g' _ hm =>
  ⟨fun c => Cert.Proof.Run.hotOf (F := Ideal) (Cert.Proof.Run.idx m c),
    (θ_run _ _ _).mono (fun r (h : _ ∧ _) c => ⟨(h.1 c).2, (h.1 c).1⟩) (Cert.Proof.Run.run (F := Ideal) m g),
    (θ_run _ _ _).mono (fun r (h : _ ∧ _) c => ⟨(h.1 c).2.trans
      ((congrArg (Cert.Proof.Ref.refHot (F := Ideal)) (hm c)).trans (Cert.Proof.Run.hot_eq m c).symm), (h.1 c).1⟩)
      (Cert.Proof.Ref.run (F := Ideal) m' g')⟩

theorem claim : Cert.Claim := ⟨Cert.Kernel.Gen.facts, Cert.KernelIdeal.Gen.facts, Cert.ReferenceIdeal.Gen.facts,
  frame_kernel, frame_kernel_ideal, frame_reference, trivial, values⟩

end Cert.Proof

end
